-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S6x2048 : Shape := ⟨2, ![6, 2048]⟩
abbrev S6 : Shape := ⟨1, ![6]⟩
abbrev S_ : Shape := ⟨0, ![]⟩
abbrev S8x2048 : Shape := ⟨2, ![8, 2048]⟩
abbrev S1 : Shape := ⟨1, ![1]⟩
abbrev S8x128 : Shape := ⟨2, ![8, 128]⟩
abbrev S2 : Shape := ⟨1, ![2]⟩
abbrev S8x16384 : Shape := ⟨2, ![8, 16384]⟩
abbrev S16384x8 : Shape := ⟨2, ![16384, 8]⟩
abbrev S2048x2048 : Shape := ⟨2, ![2048, 2048]⟩
abbrev S8x1 : Shape := ⟨2, ![8, 1]⟩
abbrev S1x2048 : Shape := ⟨2, ![1, 2048]⟩
abbrev S64x2048 : Shape := ⟨2, ![64, 2048]⟩
abbrev S2048 : Shape := ⟨1, ![2048]⟩

abbrev nBuf : Space → Nat
  | .hbm => 20
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S6, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S_, .f32⟩
  | .hbm, ⟨9, _⟩ => ⟨S8x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S8x128, .f32⟩
  | .hbm, ⟨16, _⟩ => ⟨S8x16384, .i32⟩
  | .hbm, ⟨17, _⟩ => ⟨S8x16384, .f32⟩
  | .hbm, ⟨18, _⟩ => ⟨S16384x8, .i32⟩
  | .hbm, ⟨19, _⟩ => ⟨S16384x8, .f32⟩
  | .local _ .vmem, ⟨0, _⟩ => ⟨S8x2048, .f32⟩
  | .local _ .vmem, ⟨1, _⟩ => ⟨S8x128, .f32⟩
  | .local _ .vmem, ⟨2, _⟩ => ⟨S2048x2048, .f32⟩
  | .local _ .vmem, ⟨3, _⟩ => ⟨S2048x2048, .f32⟩
  | .local _ .vmem, ⟨4, _⟩ => ⟨S8x2048, .i32⟩
  | .local _ .vmem, ⟨5, _⟩ => ⟨S8x2048, .i32⟩
  | .local _ .vmem, ⟨6, _⟩ => ⟨S8x2048, .f32⟩
  | .local _ .vmem, ⟨7, _⟩ => ⟨S8x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_cst_0 : Ref sig .tc := ⟨.hbm, 8, rfl⟩
abbrev main_call0_v3 : Ref sig .tc := ⟨.hbm, 9, rfl⟩
abbrev main_call0_c_1 : Ref sig .tc := ⟨.hbm, 10, rfl⟩
abbrev main_call0_v4 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8_0 : Ref sig .tc := ⟨.hbm, 16, rfl⟩
abbrev main_call0_v8_1 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x2048 : Shape := ⟨2, ![16384, 2048]⟩
abbrev S6x2048 : Shape := ⟨2, ![6, 2048]⟩
abbrev S6 : Shape := ⟨1, ![6]⟩
abbrev S2 : Shape := ⟨1, ![2]⟩
abbrev S4x2 : Shape := ⟨2, ![4, 2]⟩
abbrev S2048x6 : Shape := ⟨2, ![2048, 6]⟩
abbrev S16384x6 : Shape := ⟨2, ![16384, 6]⟩
abbrev S1x6 : Shape := ⟨2, ![1, 6]⟩
abbrev S16384x2x3 : Shape := ⟨3, ![16384, 2, 3]⟩
abbrev S16384x2x2 : Shape := ⟨3, ![16384, 2, 2]⟩
abbrev S16384x2x1 : Shape := ⟨3, ![16384, 2, 1]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S1x1x2 : Shape := ⟨3, ![1, 1, 2]⟩
abbrev S1x1x4x2 : Shape := ⟨4, ![1, 1, 4, 2]⟩
abbrev S16384x2x1x2 : Shape := ⟨4, ![16384, 2, 1, 2]⟩
abbrev S16384x2x4x2 : Shape := ⟨4, ![16384, 2, 4, 2]⟩
abbrev S1x1x1x2 : Shape := ⟨4, ![1, 1, 1, 2]⟩
abbrev S16384x2x4 : Shape := ⟨3, ![16384, 2, 4]⟩
abbrev S16384x2x4x1 : Shape := ⟨4, ![16384, 2, 4, 1]⟩
abbrev S16384x8 : Shape := ⟨2, ![16384, 8]⟩
abbrev S16384x64 : Shape := ⟨2, ![16384, 64]⟩
abbrev S16384x8x1 : Shape := ⟨3, ![16384, 8, 1]⟩
abbrev S16384x8x2 : Shape := ⟨3, ![16384, 8, 2]⟩

abbrev nBuf : Space → Nat
  | .hbm => 181
  | .vmem => 0
  | .smem => 0
  | _ => 0

abbrev hbmTy0_0 (i : Nat) : BufTy := match i % 128 with
  | 0 => ⟨S16384x2048, .f32⟩
  | 1 => ⟨S6x2048, .f32⟩
  | 2 => ⟨S6, .f32⟩
  | 3 => ⟨S2, .i32⟩
  | 4 => ⟨S4x2, .i32⟩
  | 5 => ⟨S2, .i32⟩
  | 6 => ⟨S2048x6, .f32⟩
  | 7 => ⟨S16384x6, .f32⟩
  | 8 => ⟨S1x6, .f32⟩
  | 9 => ⟨S16384x6, .f32⟩
  | 10 => ⟨S16384x6, .f32⟩
  | 11 => ⟨S16384x2x3, .f32⟩
  | 12 => ⟨S16384x2x2, .f32⟩
  | 13 => ⟨S16384x2x1, .f32⟩
  | 14 => ⟨S16384x2, .f32⟩
  | 15 => ⟨S_, .f32⟩
  | 16 => ⟨S16384, .f32⟩
  | 17 => ⟨S_, .f32⟩
  | 18 => ⟨S16384, .f32⟩
  | 19 => ⟨S16384, .f32⟩
  | 20 => ⟨S16384x1, .f32⟩
  | 21 => ⟨S16384x2, .f32⟩
  | 22 => ⟨S16384x2, .f32⟩
  | 23 => ⟨S16384x2, .f32⟩
  | 24 => ⟨S_, .f32⟩
  | 25 => ⟨S16384, .f32⟩
  | 26 => ⟨S16384x1, .f32⟩
  | 27 => ⟨S16384x2, .f32⟩
  | 28 => ⟨S16384x2, .f32⟩
  | 29 => ⟨S_, .i32⟩
  | 30 => ⟨S2, .i32⟩
  | 31 => ⟨S2, .i32⟩
  | 32 => ⟨S2, .f32⟩
  | 33 => ⟨S1x1x2, .f32⟩
  | 34 => ⟨S16384x2x2, .f32⟩
  | 35 => ⟨S16384x2x2, .f32⟩
  | 36 => ⟨S_, .f32⟩
  | 37 => ⟨S16384x2x2, .f32⟩
  | 38 => ⟨S16384x2x2, .f32⟩
  | 39 => ⟨S_, .f32⟩
  | 40 => ⟨S16384x2x2, .f32⟩
  | 41 => ⟨S16384x2x2, .f32⟩
  | 42 => ⟨S_, .f32⟩
  | 43 => ⟨S_, .f32⟩
  | 44 => ⟨S_, .f32⟩
  | 45 => ⟨S16384x2x2, .f32⟩
  | 46 => ⟨S16384x2x2, .f32⟩
  | 47 => ⟨S_, .f32⟩
  | 48 => ⟨S16384x2x2, .f32⟩
  | 49 => ⟨S16384x2x2, .f32⟩
  | 50 => ⟨S16384x2x2, .f32⟩
  | 51 => ⟨S16384x2x2, .f32⟩
  | 52 => ⟨S_, .f32⟩
  | 53 => ⟨S1x1x2, .f32⟩
  | 54 => ⟨S1x1x2, .f32⟩
  | 55 => ⟨S_, .f32⟩
  | 56 => ⟨S_, .f32⟩
  | 57 => ⟨S1x1x2, .f32⟩
  | 58 => ⟨S1x1x2, .f32⟩
  | 59 => ⟨S16384x2x2, .f32⟩
  | 60 => ⟨S16384x2x2, .f32⟩
  | 61 => ⟨S_, .f32⟩
  | 62 => ⟨S16384x2x2, .f32⟩
  | 63 => ⟨S16384x2x2, .f32⟩
  | 64 => ⟨S16384x2x2, .f32⟩
  | 65 => ⟨S16384x2x2, .i32⟩
  | 66 => ⟨S_, .i32⟩
  | 67 => ⟨S2, .i32⟩
  | 68 => ⟨S2, .i32⟩
  | 69 => ⟨S1x1x2, .i32⟩
  | 70 => ⟨S_, .i32⟩
  | 71 => ⟨S_, .i32⟩
  | 72 => ⟨S16384x2x2, .i32⟩
  | 73 => ⟨S16384x2x2, .i32⟩
  | 74 => ⟨S16384x2x2, .i32⟩
  | 75 => ⟨S16384x2x2, .i32⟩
  | 76 => ⟨S16384x2x2, .f32⟩
  | 77 => ⟨S16384x2x2, .f32⟩
  | 78 => ⟨S_, .f32⟩
  | 79 => ⟨S_, .f32⟩
  | 80 => ⟨S_, .f32⟩
  | 81 => ⟨S16384x2x2, .f32⟩
  | 82 => ⟨S16384x2x2, .f32⟩
  | 83 => ⟨S_, .f32⟩
  | 84 => ⟨S16384x2x2, .f32⟩
  | 85 => ⟨S16384x2x2, .f32⟩
  | 86 => ⟨S1x1x4x2, .i32⟩
  | 87 => ⟨S16384x2x1x2, .i32⟩
  | 88 => ⟨S16384x2x4x2, .i32⟩
  | 89 => ⟨S16384x2x4x2, .i32⟩
  | 90 => ⟨S16384x2x4x2, .i32⟩
  | 91 => ⟨S_, .i32⟩
  | 92 => ⟨S2, .i32⟩
  | 93 => ⟨S2, .i32⟩
  | 94 => ⟨S1x1x1x2, .i32⟩
  | 95 => ⟨S_, .i32⟩
  | 96 => ⟨S_, .i32⟩
  | 97 => ⟨S16384x2x4x2, .i32⟩
  | 98 => ⟨S16384x2x4x2, .i32⟩
  | 99 => ⟨S16384x2x4x2, .i32⟩
  | 100 => ⟨S16384x2x4x2, .i32⟩
  | 101 => ⟨S1x1x1x2, .i32⟩
  | 102 => ⟨S16384x2x4x2, .i32⟩
  | 103 => ⟨S16384x2x4x2, .i32⟩
  | 104 => ⟨S_, .i32⟩
  | 105 => ⟨S16384x2x4, .i32⟩
  | 106 => ⟨S_, .i32⟩
  | 107 => ⟨S_, .i32⟩
  | 108 => ⟨S_, .i32⟩
  | 109 => ⟨S16384x2x4, .i32⟩
  | 110 => ⟨S16384x2x4, .i32⟩
  | 111 => ⟨S_, .i32⟩
  | 112 => ⟨S16384x2x4, .i32⟩
  | 113 => ⟨S16384x2x4, .i32⟩
  | 114 => ⟨S16384x2x1x2, .f32⟩
  | 115 => ⟨S_, .i32⟩
  | 116 => ⟨S1x1x4x2, .i32⟩
  | 117 => ⟨S1x1x4x2, .i1⟩
  | 118 => ⟨S1x1x4x2, .i1⟩
  | 119 => ⟨S_, .f32⟩
  | 120 => ⟨S16384x2x1x2, .f32⟩
  | 121 => ⟨S16384x2x1x2, .f32⟩
  | 122 => ⟨S16384x2x4x2, .i1⟩
  | 123 => ⟨S16384x2x4x2, .f32⟩
  | 124 => ⟨S16384x2x4x2, .f32⟩
  | 125 => ⟨S16384x2x4x2, .f32⟩
  | 126 => ⟨S16384x2x4x1, .f32⟩
  | 127 => ⟨S16384x2x4, .f32⟩
  | _ => ⟨S16384x2048, .f32⟩

abbrev hbmTy0_1 (i : Nat) : BufTy := match i % 128 with
  | 0 => ⟨S16384x2x4x1, .f32⟩
  | 1 => ⟨S16384x2x4, .f32⟩
  | 2 => ⟨S16384x2x4, .f32⟩
  | 3 => ⟨S_, .f32⟩
  | 4 => ⟨S16384x2, .f32⟩
  | 5 => ⟨S16384x2x1, .f32⟩
  | 6 => ⟨S_, .f32⟩
  | 7 => ⟨S16384x2x1, .f32⟩
  | 8 => ⟨S16384x2x1, .f32⟩
  | 9 => ⟨S16384x2x4, .f32⟩
  | 10 => ⟨S16384x2x4, .f32⟩
  | 11 => ⟨S16384x2x1, .f32⟩
  | 12 => ⟨S16384x2x4, .f32⟩
  | 13 => ⟨S16384x2x4, .f32⟩
  | 14 => ⟨S16384x8, .i32⟩
  | 15 => ⟨S16384x8, .f32⟩
  | 16 => ⟨S_, .f32⟩
  | 17 => ⟨S16384x64, .f32⟩
  | 18 => ⟨S16384, .i32⟩
  | 19 => ⟨S16384x1, .i32⟩
  | 20 => ⟨S_, .i32⟩
  | 21 => ⟨S16384x1, .i32⟩
  | 22 => ⟨S16384x1, .i1⟩
  | 23 => ⟨S_, .i32⟩
  | 24 => ⟨S16384x1, .i32⟩
  | 25 => ⟨S16384x1, .i32⟩
  | 26 => ⟨S16384x1, .i32⟩
  | 27 => ⟨S_, .i32⟩
  | 28 => ⟨S16384x8, .i32⟩
  | 29 => ⟨S16384x8, .i1⟩
  | 30 => ⟨S_, .i32⟩
  | 31 => ⟨S16384x8, .i32⟩
  | 32 => ⟨S16384x8, .i32⟩
  | 33 => ⟨S16384x8, .i32⟩
  | 34 => ⟨S16384x8, .i32⟩
  | 35 => ⟨S16384x8x1, .i32⟩
  | 36 => ⟨S16384x8x1, .i32⟩
  | 37 => ⟨S16384x8x2, .i32⟩
  | 38 => ⟨S16384x64, .f32⟩
  | 39 => ⟨S_, .f32⟩
  | 40 => ⟨S_, .f32⟩
  | 41 => ⟨S16384x64, .f32⟩
  | 42 => ⟨S16384x64, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S16384x64, .f32⟩
  | 50 => ⟨S16384x64, .f32⟩
  | 51 => ⟨S16384x8, .f32⟩
  | 52 => ⟨S16384x8, .i32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_13 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_14 : Ref sig .tc := ⟨.hbm, 78, rfl⟩
abbrev main_cst_15 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_16 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_17 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_18 : Ref sig .tc := ⟨.hbm, 104, rfl⟩
abbrev main_v61 : Ref sig .tc := ⟨.hbm, 105, rfl⟩
abbrev main_c_19 : Ref sig .tc := ⟨.hbm, 106, rfl⟩
abbrev main_c_20 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_v62 : Ref sig .tc := ⟨.hbm, 113, rfl⟩
abbrev main_v63 : Ref sig .tc := ⟨.hbm, 114, rfl⟩
abbrev main_c_21 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_22 : Ref sig .tc := ⟨.hbm, 119, rfl⟩
abbrev main_v67 : Ref sig .tc := ⟨.hbm, 120, rfl⟩
abbrev main_v68 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_23 : Ref sig .tc := ⟨.hbm, 131, rfl⟩
abbrev main_v75 : Ref sig .tc := ⟨.hbm, 132, rfl⟩
abbrev main_v76 : Ref sig .tc := ⟨.hbm, 133, rfl⟩
abbrev main_cst_24 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_25 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_c_26 : Ref sig .tc := ⟨.hbm, 148, rfl⟩
abbrev main_v89 : Ref sig .tc := ⟨.hbm, 149, rfl⟩
abbrev main_v90 : Ref sig .tc := ⟨.hbm, 150, rfl⟩
abbrev main_c_27 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_c_28 : Ref sig .tc := ⟨.hbm, 155, rfl⟩
abbrev main_v94 : Ref sig .tc := ⟨.hbm, 156, rfl⟩
abbrev main_v95 : Ref sig .tc := ⟨.hbm, 157, rfl⟩
abbrev main_c_29 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_30 : Ref sig .tc := ⟨.hbm, 167, rfl⟩
abbrev main_call7_v0 : Ref sig .tc := ⟨.hbm, 168, rfl⟩
abbrev main_call7_v1 : Ref sig .tc := ⟨.hbm, 169, rfl⟩
abbrev main_v104 : Ref sig .tc := ⟨.hbm, 170, rfl⟩
abbrev main_cst_31 : Ref sig .tc := ⟨.hbm, 171, rfl⟩
abbrev main_v105 : Ref sig .tc := ⟨.hbm, 172, rfl⟩
abbrev main_v106 : Ref sig .tc := ⟨.hbm, 173, rfl⟩
abbrev main_cst_32 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_values : Ref sig .tc := ⟨.hbm, 179, rfl⟩
abbrev main_indices : Ref sig .tc := ⟨.hbm, 180, rfl⟩

abbrev nD : Nat := 1
abbrev τ : Topo := Topo.v7x

variable {F : FTy → Type} [FloatOps F]
-- ==== Proof.Column.lean ====
/- The expert weights of one token, as plain functions of its six logits: two anchors, each with two coordinates and a
   logit of its own, spread over a grid of eight by eight experts. -/
module

public import Idealize.ShloMosaic.Lib.Pointwise
public import Idealize.ShloMosaic.Lib.IdealHost

@[expose] public section

noncomputable section

namespace Cert.Router

open Idealize.ShloMosaic

/-- The lower clip bound, about 1e-6. -/
def low : EReal := Ideal.ofBits .f32 0x358637BD#32
/-- The upper clip bound, about 1 − 1e-6. -/
def high : EReal := Ideal.ofBits .f32 0x3F7FFFEF#32
/-- The small number the weights' sums are raised by. -/
def tiny : EReal := Ideal.ofBits .f32 0x3089705F#32

/-- A coordinate's place on the grid, before the caps. -/
def scaled (x : EReal) : EReal := min high (max low (Ideal.logistic x)) * Ideal.ofBits .f32 0x40E00000#32
/-- A coordinate's place on the grid. -/
def place (x : EReal) : EReal := max (min (scaled x) (Ideal.ofBits .f32 0x40DFFFFE#32)) 0
/-- The cell a place falls in, as a number. -/
def cell (p : EReal) : EReal := min (Ideal.ofBits .f32 0x40C00000#32) (max 0 (Ideal.liftRound Int.floor p))
/-- How far into its cell a place lies. -/
def part (p : EReal) : EReal := min high (max low (p - cell p))

/-- The weights of the four corners of a cell. -/
def w00 (p q : EReal) : EReal := (1 - part p) * (1 - part q)
/-- The weight of corner (1, 0). -/
def w10 (p q : EReal) : EReal := part p * (1 - part q)
/-- The weight of corner (0, 1). -/
def w01 (p q : EReal) : EReal := (1 - part p) * part q
/-- The weight of corner (1, 1). -/
def w11 (p q : EReal) : EReal := part p * part q
/-- Their sum, raised. -/
def mass (p q : EReal) : EReal := w00 p q + w10 p q + w01 p q + w11 p q + tiny

/-- The expert at a corner of a cell, as a word. -/
def corner (p q : EReal) (b c : BitVec 32) : BitVec 32 :=
  IntOp.addi (IntOp.addi (Ideal.fptosi 32 (cell p)) b) (IntOp.muli 8#32 (IntOp.addi (Ideal.fptosi 32 (cell q)) c))

/-- A weight that counts at one expert only. -/
def only (k : Fin 64) (i : BitVec 32) (v : EReal) : EReal :=
  Scalar.select (IntOp.cmpi .eq (BitVec.ofNat 32 k.val) i) v 0

/-- The exponential of an anchor's logit below the greater of the two. -/
def lift (a b c : EReal) : EReal := Ideal.exp (c - max a b)
/-- An anchor's share of the two. -/
def share (a b c : EReal) : EReal := Ideal.div (lift a b c) (lift a b a + lift a b b)

/-- A token's weight at an expert before normalising: eight corner weights, each at its expert, and at least zero. -/
def raw (x : Fin 6 → EReal) (k : Fin 64) : EReal :=
  let p := place (x 0); let q := place (x 1); let s := place (x 3); let t := place (x 4)
  let u := Ideal.div (share (x 2) (x 5) (x 2)) (mass p q)
  let v := Ideal.div (share (x 2) (x 5) (x 5)) (mass s t)
  max (only k (corner p q 0#32 0#32) (w00 p q * u) + only k (corner p q 1#32 0#32) (w10 p q * u)
    + only k (corner p q 0#32 1#32) (w01 p q * u) + only k (corner p q 1#32 1#32) (w11 p q * u)
    + only k (corner s t 0#32 0#32) (w00 s t * v) + only k (corner s t 1#32 0#32) (w10 s t * v)
    + only k (corner s t 0#32 1#32) (w01 s t * v) + only k (corner s t 1#32 1#32) (w11 s t * v)) 0

/-- A token's weight at an expert. -/
def prob (x : Fin 6 → EReal) (k : Fin 64) : EReal := Ideal.div (raw x k) (∑ k, raw x k + tiny)

end Cert.Router

end
-- ==== Proof.TopK.lean ====
/- Eight rounds of "take the greatest entry, at the least position that holds it, and overwrite it by −1" over a column
   of sixty-four entries that are all at least zero: the rounds return the first eight entries of the column sorted
   stably, greatest first, and their positions. -/
module

public import Idealize.ShloMosaic.Lib.Pointwise
public import Idealize.ShloMosaic.Lib.SortPrefix

@[expose] public section

noncomputable section

namespace Cert.Router

open Idealize.ShloMosaic

/-- The greatest entry of a column. -/
def top (g : Fin 64 → EReal) : EReal := Finset.univ.fold max (⊥ : EReal) g

/-- The word of the least position that holds the greatest entry, as a signed minimum over the positions, a position
    that does not hold it counting as 64. -/
def topAt (g : Fin 64 → EReal) : BitVec 32 :=
  Finset.univ.fold IntOp.minsi 2147483647#32 fun k : Fin 64 =>
    if g k = top g then BitVec.ofNat 32 k.val else 64#32

/-- The column with the entry just taken overwritten by −1. -/
def strike (g : Fin 64 → EReal) : Fin 64 → EReal := fun k =>
  if BitVec.ofNat 32 k.val = topAt g then Ideal.ofBits .f32 0xBF800000#32 else g k

/-- The column at the start of a round. -/
def after (g : Fin 64 → EReal) : Nat → Fin 64 → EReal
  | 0 => g
  | i + 1 => strike (after g i)

/-- The position the greatest entry is first met at. -/
theorem exists_first_top (g : Fin 64 → EReal) :
    ∃ p : Fin 64, top g = g p ∧ ∀ q, g q ≤ g p ∧ (g q = g p → p ≤ q) := by
  obtain ⟨m, -, hm⟩ := Finset.exists_max_image Finset.univ g ⟨0, Finset.mem_univ _⟩
  have hne : (Finset.univ.filter fun q => g q = g m).Nonempty := ⟨m, by simp⟩
  refine ⟨(Finset.univ.filter fun q => g q = g m).min' hne, ?_, fun q => ?_⟩ <;>
    have hp : g ((Finset.univ.filter fun q => g q = g m).min' hne) = g m :=
      (Finset.mem_filter.mp (Finset.min'_mem _ hne)).2
  · rw [hp]
    apply le_antisymm
    · exact Finset.fold_max_le _ |>.mpr ⟨bot_le, fun x hx => hm x hx⟩
    · exact Finset.le_fold_max _ |>.mpr (Or.inr ⟨m, Finset.mem_univ _, le_rfl⟩)
  · rw [hp]
    exact ⟨hm q (Finset.mem_univ _), fun h => Finset.min'_le _ _ (by simp [h])⟩

/-- A signed minimum over a set is one of its words or the starting word, and is at most each of them. -/
theorem fold_minsi_spec (f : Fin 64 → BitVec 32) (b : BitVec 32) (s : Finset (Fin 64)) :
    (s.fold IntOp.minsi b f = b ∨ ∃ k ∈ s, s.fold IntOp.minsi b f = f k)
      ∧ (s.fold IntOp.minsi b f).toInt ≤ b.toInt ∧ ∀ k ∈ s, (s.fold IntOp.minsi b f).toInt ≤ (f k).toInt := by
  classical
  induction s using Finset.induction_on with
  | empty => simp
  | insert a s ha ih =>
    rw [Finset.fold_insert ha]
    obtain ⟨h1, h2, h3⟩ := ih
    generalize Finset.fold IntOp.minsi b f s = v at h1 h2 h3 ⊢
    unfold IntOp.minsi
    by_cases hlt : (f a).toInt < v.toInt
    · have e : (f a).slt v = true := by simpa [BitVec.slt_iff_toInt_lt] using hlt
      rw [if_pos e]
      refine ⟨Or.inr ⟨a, Finset.mem_insert_self _ _, rfl⟩, by omega, fun k hk => ?_⟩
      rcases Finset.mem_insert.mp hk with rfl | hk
      · exact le_rfl
      · have := h3 k hk; omega
    · have e : ¬ (f a).slt v = true := by simpa [BitVec.slt_iff_toInt_lt] using hlt
      rw [if_neg e]
      refine ⟨?_, h2, fun k hk => ?_⟩
      · rcases h1 with h | ⟨k, hk, h⟩
        · exact Or.inl h
        · exact Or.inr ⟨k, Finset.mem_insert_of_mem hk, h⟩
      · rcases Finset.mem_insert.mp hk with rfl | hk
        · omega
        · exact h3 k hk

/-- The word of a position below 64, read signed, is the position. -/
theorem toInt_word (k : Fin 64) : (BitVec.ofNat 32 k.val).toInt = k.val := by
  have := k.isLt
  rw [BitVec.toInt_eq_toNat_cond, BitVec.toNat_ofNat]
  split <;> omega

/-- Two positions below 64 with one word are one position. -/
theorem word_inj {k p : Fin 64} (h : BitVec.ofNat 32 k.val = BitVec.ofNat 32 p.val) : k = p := by
  have := congrArg BitVec.toInt h
  rw [toInt_word, toInt_word] at this
  exact Fin.ext (by omega)

/-- What one round takes: the greatest entry and the word of the least position that holds it. -/
theorem round_spec (g : Fin 64 → EReal) :
    ∃ p : Fin 64, top g = g p ∧ topAt g = BitVec.ofNat 32 p.val ∧ ∀ q, g q ≤ g p ∧ (g q = g p → p ≤ q) := by
  obtain ⟨p, hp, hq⟩ := exists_first_top g
  refine ⟨p, hp, ?_, hq⟩
  unfold topAt
  rw [hp]
  obtain ⟨h1, -, h3⟩ := fold_minsi_spec (fun k => if g k = g p then BitVec.ofNat 32 k.val else 64#32) 2147483647#32 Finset.univ
  generalize Finset.fold IntOp.minsi 2147483647#32 (fun k => if g k = g p then BitVec.ofNat 32 k.val else 64#32)
    Finset.univ = v at h1 h3 ⊢
  have hle := h3 p (Finset.mem_univ _)
  rw [if_pos rfl, toInt_word] at hle
  have hpl := p.isLt
  rcases h1 with rfl | ⟨k, -, hk⟩
  · have : (2147483647#32 : BitVec 32).toInt = 2147483647 := by decide
    omega
  · by_cases e : g k = g p
    · rw [if_pos e] at hk
      rw [hk, toInt_word] at hle
      have h4 := (hq k).2 e
      have : k = p := Fin.ext (by have : p.val ≤ k.val := h4; omega)
      rw [hk, this]
    · rw [if_neg e] at hk
      have : (64#32 : BitVec 32).toInt = 64 := by decide
      rw [hk] at hle
      omega

/-- The position a round takes. -/
def pick (g : Fin 64 → EReal) : Fin 64 := Classical.choose (round_spec g)

/-- The maximum is the entry at the position taken. -/
theorem top_eq (g : Fin 64 → EReal) : top g = g (pick g) := (Classical.choose_spec (round_spec g)).1
/-- The position as a word. -/
theorem topAt_eq (g : Fin 64 → EReal) : topAt g = BitVec.ofNat 32 (pick g).val := (Classical.choose_spec (round_spec g)).2.1
/-- No entry is greater than the one taken. -/
theorem le_pick (g : Fin 64 → EReal) (q : Fin 64) : g q ≤ g (pick g) := ((Classical.choose_spec (round_spec g)).2.2 q).1
/-- The position taken is the least of those that hold the maximum. -/
theorem pick_le (g : Fin 64 → EReal) (q : Fin 64) (h : g q = g (pick g)) : pick g ≤ q :=
  ((Classical.choose_spec (round_spec g)).2.2 q).2 h

/-- The pattern the rounds overwrite by is −1. -/
theorem ofBits_neg_one : Ideal.ofBits .f32 0xBF800000#32 = ((-1 : ℝ) : EReal) := by
  simp [Ideal.ofBits, Ideal.ieee, -EReal.coe_mul, -EReal.coe_neg]; norm_num

/-- A round overwrites the position it takes and no other. -/
theorem strike_eq (g : Fin 64 → EReal) (k : Fin 64) : strike g k = if k = pick g then ((-1 : ℝ) : EReal) else g k := by
  unfold strike
  rw [topAt_eq, ofBits_neg_one]
  by_cases h : k = pick g
  · rw [if_pos h, if_pos (by rw [h])]
  · rw [if_neg h, if_neg fun e => h (word_inj e)]

/-- The position round `i` takes. -/
def picked (g : Fin 64 → EReal) (i : Nat) : Fin 64 := pick (after g i)

/-- The column at the start of a round: −1 at the positions taken before, the entry elsewhere. -/
theorem after_eq (g : Fin 64 → EReal) (i : Nat) (k : Fin 64) :
    after g i k = if ∃ t < i, picked g t = k then ((-1 : ℝ) : EReal) else g k := by
  induction i with
  | zero => simp [after]
  | succ i ih =>
    show strike (after g i) k = _
    rw [strike_eq, ih]
    show (if k = picked g i then _ else _) = _
    by_cases h : k = picked g i
    · rw [if_pos h, if_pos ⟨i, Nat.lt_succ_self i, h.symm⟩]
    · rw [if_neg h]
      by_cases h2 : ∃ t < i, picked g t = k
      · rw [if_pos h2, if_pos (by obtain ⟨t, ht, e⟩ := h2; exact ⟨t, by omega, e⟩)]
      · rw [if_neg h2, if_neg]
        rintro ⟨t, ht, e⟩
        rcases Nat.lt_succ_iff_lt_or_eq.mp ht with ht | rfl
        · exact h2 ⟨t, ht, e⟩
        · exact h e.symm

/-- A round takes a position not taken before: some position is left, its entry is above −1. -/
theorem picked_fresh (g : Fin 64 → EReal) (hg : ∀ k, 0 ≤ g k) (i : Nat) (hi : i < 64) :
    ¬ ∃ t < i, picked g t = picked g i := by
  intro h
  obtain ⟨k, hk⟩ : ∃ k : Fin 64, ¬ ∃ t < i, picked g t = k := by
    by_contra hall
    rw [not_exists] at hall
    have hc : (Finset.univ : Finset (Fin 64)) ⊆ (Finset.range i).image (picked g) := fun k _ => by
      obtain ⟨t, ht, e⟩ := not_not.mp (hall k)
      exact Finset.mem_image.mpr ⟨t, Finset.mem_range.mpr ht, e⟩
    have h1 := (Finset.card_le_card hc).trans Finset.card_image_le
    simp at h1
    omega
  have h1 := le_pick (after g i) k
  change after g i k ≤ after g i (picked g i) at h1
  rw [after_eq, after_eq, if_neg hk, if_pos h] at h1
  have h2 : (0 : EReal) ≤ ((-1 : ℝ) : EReal) := (hg k).trans h1
  have h3 : ((0 : ℝ) : EReal) ≤ ((-1 : ℝ) : EReal) := h2
  rw [EReal.coe_le_coe_iff] at h3
  norm_num at h3

/-- What a round returns, in terms of the column itself. -/
theorem top_after (g : Fin 64 → EReal) (hg : ∀ k, 0 ≤ g k) (i : Nat) (hi : i < 64) : top (after g i) = g (picked g i) := by
  rw [top_eq]
  show after g i (picked g i) = _
  rw [after_eq, if_neg (picked_fresh g hg i hi)]

/-- Round `i`'s position as a word. -/
theorem topAt_after (g : Fin 64 → EReal) (i : Nat) : topAt (after g i) = BitVec.ofNat 32 (picked g i).val := topAt_eq _

/-- "The greater entry first, and of equal entries the lower position first". -/
def ranks (g : Fin 64 → EReal) (k k' : Fin 64) : Bool :=
  decide (g k' < g k) || (decide (g k = g k') && decide (k < k'))

/-- Ranking by the entry and then by the position is a strict total order. -/
theorem ranks_strictTotal (g : Fin 64 → EReal) : StrictTotalBefore (ranks g) := by
  classical
  have := StrictTotalBefore.of_key_then_position (fun a b : EReal => decide (b < a)) g
    (fun a => by simp) (fun a b c hab hbc => by
      simp only [decide_eq_true_eq] at hab hbc ⊢
      exact hbc.trans hab) (fun a b => by
      simp only [decide_eq_true_eq]
      rcases lt_trichotomy a b with h | h | h
      · exact Or.inr (Or.inr h)
      · exact Or.inr (Or.inl h)
      · exact Or.inl h)
  exact this

/-- A stable sort of a list whose elements are compared only with later ones depends on the comparison of an element
    with earlier ones alone. -/
theorem stableSort_congr_of_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Two orders that sort the positions into one list put the same position at each place. -/
theorem sortedFrom_congr {n : Nat} {B B' : Fin n → Fin n → Bool} (h : sortPositions n B = sortPositions n B') :
    sortedFrom B = sortedFrom B' := by
  funext k
  simp only [sortedFrom, List.get_eq_getElem, Fin.val_cast, h]

/-- The stable sort by the entries alone is the sort by the entries and then the positions. -/
theorem sortedFrom_gt (g : Fin 64 → EReal) :
    sortedFrom (fun k k' : Fin 64 => Ideal.cmpTotal .gt (g k) (g k') == 1#1) = sortedFrom (ranks g) := by
  have hs : sortPositions 64 (fun k k' : Fin 64 => Ideal.cmpTotal .gt (g k) (g k') == 1#1) = sortPositions 64 (ranks g) := by
    refine stableSort_congr_of_pairwise _ _ _ ((List.pairwise_lt_finRange 64).imp fun {a b} hab => ?_)
    have : ¬ b < a := not_lt.mpr hab.le
    unfold ranks Ideal.cmpTotal Ideal.cmp
    by_cases hlt : g a < g b <;> simp [CmpDirection.ordered, hlt, this]
  exact sortedFrom_congr hs

/-- Round `i` of eight takes the position that the stable sort, greatest first, puts at place `i`. -/
theorem sortedFrom_eq_picked (g : Fin 64 → EReal) (hg : ∀ k, 0 ≤ g k) (i : Fin 8) :
    sortedFrom (fun k k' : Fin 64 => Ideal.cmpTotal .gt (g k) (g k') == 1#1) (i.castLE (by decide)) = picked g i.val := by
  have hmax : ∀ (i : Fin 8) (p : Fin 64), (¬ ∃ t < i.val, picked g t = p) → ranks g p (picked g i.val) = false := fun i p hp => by
    have hi : i.val < 64 := by have := i.isLt; omega
    have h1 := le_pick (after g i.val) p
    have h2 := pick_le (after g i.val) p
    change after g i.val p ≤ after g i.val (picked g i.val) at h1
    change after g i.val p = after g i.val (picked g i.val) → picked g i.val ≤ p at h2
    rw [after_eq, after_eq, if_neg hp, if_neg (picked_fresh g hg i.val hi)] at h1 h2
    unfold ranks
    simp only [Bool.or_eq_false_iff, Bool.and_eq_false_iff, decide_eq_false_iff_not, not_lt]
    refine ⟨h1, ?_⟩
    by_cases e : g p = g (picked g i.val)
    · exact Or.inr (h2 e)
    · exact Or.inl e
  have hne : ∀ a b : Fin 8, a.val < b.val → picked g a.val ≠ picked g b.val := fun a b hab e =>
    picked_fresh g hg b.val (by have := b.isLt; omega) ⟨a.val, hab, e⟩
  have hinj : Function.Injective fun i : Fin 8 => picked g i.val := fun a b hab => by
    rcases lt_trichotomy a.val b.val with h | h | h
    · exact absurd hab (hne a b h)
    · exact Fin.ext h
    · exact absurd hab.symm (hne b a h)
  have hord : ∀ a b : Fin 8, a < b → ranks g (picked g b.val) (picked g a.val) = false := fun a b hab => by
    refine hmax a _ ?_
    rintro ⟨t, ht, e⟩
    have hb := b.isLt
    have hab' : a.val < b.val := hab
    exact hne ⟨t, by omega⟩ b (by show t < b.val; omega) e
  have hdom : ∀ (a : Fin 8) (p : Fin 64), (∀ j : Fin 8, picked g j.val ≠ p) → ranks g p (picked g a.val) = false :=
    fun a p hp => by
      refine hmax a p ?_
      rintro ⟨t, ht, e⟩
      have ha := a.isLt
      exact hp ⟨t, by omega⟩ e
  have h864 : 8 ≤ 64 := by omega
  have key := StrictTotalBefore.sortedFrom_eq_of_prefix (ranks_strictTotal g) h864 (fun i : Fin 8 => picked g i.val) hinj hord hdom i
  rw [sortedFrom_gt]
  exact key

end Cert.Router

end
-- ==== Proof.KernelBlock.lean ====
/- What the kernel's body stores for a block of tokens, entry by entry: round `r`'s position and entry of the token's
   weights over the experts. -/
module

public import proofs.«01_k».proof.Proof.Gen.KernelIdeal.Frame
public import proofs.«01_k».proof.Proof.Column
public import proofs.«01_k».proof.Proof.TopK
public import Idealize.ShloMosaic.Lib.Pipeline.Value

@[expose] public section

noncomputable section

namespace Cert.Router

open Idealize.ShloMosaic Idealize.SL.Sem Cert.KernelIdeal Cert.KernelIdeal.Gen

set_option maxRecDepth 16384

variable (v0 : Vec Ideal S8x2048 .f32) (v2 : Vec Ideal S2048x2048 .f32) (v4 : Vec Ideal S8x128 .f32)

/-- The six logits of the token in lane `l` of a block. -/
def lane (l : Fin 2048) (i : Fin 6) : EReal :=
  ∑ x : Fin 2048, v0 (ix2 (i.castLE (by decide)) x) * v2 (ix2 l x) + v4 (ix2 (i.castLE (by decide)) 0)

/-- Row `r` of the product plus the biases: logit `r` of the lane's token. -/
theorem pay4_apply (r : Fin 6) (l : Fin 2048) : k0_pay4 v0 v2 v4 (ix2 (r.castLE (by decide)) l) = lane v0 v2 v4 l r := by
  pointwise [k0_pay4]
  rfl

/-- The row of anchor 0's own logit. -/
theorem logit5 (r : Fin 1) (l : Fin 2048) : k0_pay5 v0 v2 v4 (ix2 r l) = lane v0 v2 v4 l 2 := by
  pointwise [k0_pay5]
  exact pay4_apply v0 v2 v4 2 l
/-- The row of anchor 1's first coordinate. -/
theorem logit6 (r : Fin 1) (l : Fin 2048) : k0_pay6 v0 v2 v4 (ix2 r l) = lane v0 v2 v4 l 3 := by
  pointwise [k0_pay6]
  exact pay4_apply v0 v2 v4 3 l
/-- The row of anchor 1's second coordinate. -/
theorem logit7 (r : Fin 1) (l : Fin 2048) : k0_pay7 v0 v2 v4 (ix2 r l) = lane v0 v2 v4 l 4 := by
  pointwise [k0_pay7]
  exact pay4_apply v0 v2 v4 4 l
/-- The row of anchor 1's own logit. -/
theorem logit8 (r : Fin 1) (l : Fin 2048) : k0_pay8 v0 v2 v4 (ix2 r l) = lane v0 v2 v4 l 5 := by
  pointwise [k0_pay8]
  exact pay4_apply v0 v2 v4 5 l

/-- Anchor 0's share of the softmax. -/
theorem share13 (r : Fin 1) (l : Fin 2048) :
    k0_pay13 v0 v2 v4 (ix2 r l) = share (lane v0 v2 v4 l 2) (lane v0 v2 v4 l 5) (lane v0 v2 v4 l 2) := by
  pointwise [k0_pay13, k0_pay12, k0_pay11, k0_pay10, k0_pay9]
  simp only [logit5, logit8]
  rfl
/-- Anchor 1's share of the softmax. -/
theorem share14 (r : Fin 1) (l : Fin 2048) :
    k0_pay14 v0 v2 v4 (ix2 r l) = share (lane v0 v2 v4 l 2) (lane v0 v2 v4 l 5) (lane v0 v2 v4 l 5) := by
  pointwise [k0_pay14, k0_pay12, k0_pay11, k0_pay10, k0_pay9]
  simp only [logit5, logit8]
  rfl

/-- Anchor 0's first coordinate: its place. -/
theorem place16 (r : Fin 1) (l : Fin 2048) : k0_pay16 v0 v2 v4 (ix2 r l) = place (lane v0 v2 v4 l 0) := by
  have h : k0_pay4 v0 v2 v4 (ix2 0 l) = _ := pay4_apply v0 v2 v4 0 l
  pointwise [k0_pay16]
  rw [h]
  rfl
/-- A scaled coordinate, capped, is its place. -/
theorem place18 (v42 : FVec Ideal S1x2048 .f32) (y : EReal) (l : Fin 2048) (h : ∀ r, v42 (ix2 r l) = scaled y) (r : Fin 1) :
    k0_pay18 v42 (ix2 r l) = place y := by
  pointwise [k0_pay18]
  rw [h]
  rfl
/-- Anchor 0's second coordinate, squashed and scaled. -/
theorem scaled17 (r : Fin 1) (l : Fin 2048) : k0_pay17 v0 v2 v4 (ix2 r l) = scaled (lane v0 v2 v4 l 1) := by
  have h : k0_pay4 v0 v2 v4 (ix2 1 l) = _ := pay4_apply v0 v2 v4 1 l
  pointwise [k0_pay17]
  rw [h]
  rfl
/-- Anchor 1's first coordinate: its place. -/
theorem place33 (v12 : FVec Ideal S1x2048 .f32) (r : Fin 1) (l : Fin 2048) : k0_pay33 v12 (ix2 r l) = place (v12 (ix2 r l)) := by
  pointwise [k0_pay33]
  rfl
/-- Anchor 1's second coordinate: its place. -/
theorem place34 (v13 : FVec Ideal S1x2048 .f32) (r : Fin 1) (l : Fin 2048) : k0_pay34 v13 (ix2 r l) = place (v13 (ix2 r l)) := by
  pointwise [k0_pay34]
  rfl

section First
variable (v40 v42 : FVec Ideal S1x2048 .f32) (l : Fin 2048) (p : EReal) (y : EReal)

/-- The lower corner of the first place. -/
theorem cell19 (hp : ∀ r, v40 (ix2 r l) = p) (r : Fin 1) : k0_pay19 v40 (ix2 r l) = cell p := by
  pointwise [k0_pay19]
  rw [hp]
  rfl
/-- The lower corner of the second place. -/
theorem cell20 (hq : ∀ r, v42 (ix2 r l) = scaled y) (r : Fin 1) : k0_pay20 v42 (ix2 r l) = cell (place y) := by
  have h := place18 v42 y l hq
  pointwise [k0_pay20]
  rw [h]
  rfl
/-- The fraction of the first place. -/
theorem part21 (hp : ∀ r, v40 (ix2 r l) = p) (r : Fin 1) : k0_pay21 v40 (ix2 r l) = part p := by
  have h := cell19 v40 l p hp
  pointwise [k0_pay21]
  rw [h, hp]
  rfl
/-- The fraction of the second place. -/
theorem part22 (hq : ∀ r, v42 (ix2 r l) = scaled y) (r : Fin 1) : k0_pay22 v42 (ix2 r l) = part (place y) := by
  have h := place18 v42 y l hq
  have h' := cell20 v42 l y hq
  pointwise [k0_pay22]
  rw [h, h']
  rfl
/-- Anchor 0's weight of corner (0, 0). -/
theorem w23 (hp : ∀ r, v40 (ix2 r l) = p) (hq : ∀ r, v42 (ix2 r l) = scaled y) (r : Fin 1) :
    k0_pay23 v40 v42 (ix2 r l) = w00 p (place y) := by
  have h := part21 v40 l p hp
  have h' := part22 v42 l y hq
  pointwise [k0_pay23]
  rw [h, h']
  rfl
/-- Anchor 0's weight of corner (1, 0). -/
theorem w24 (hp : ∀ r, v40 (ix2 r l) = p) (hq : ∀ r, v42 (ix2 r l) = scaled y) (r : Fin 1) :
    k0_pay24 v40 v42 (ix2 r l) = w10 p (place y) := by
  have h := part21 v40 l p hp
  have h' := part22 v42 l y hq
  pointwise [k0_pay24]
  rw [h, h']
  rfl
/-- Anchor 0's weight of corner (0, 1). -/
theorem w25 (hp : ∀ r, v40 (ix2 r l) = p) (hq : ∀ r, v42 (ix2 r l) = scaled y) (r : Fin 1) :
    k0_pay25 v40 v42 (ix2 r l) = w01 p (place y) := by
  have h := part21 v40 l p hp
  have h' := part22 v42 l y hq
  pointwise [k0_pay25]
  rw [h, h']
  rfl
/-- Anchor 0's weight of corner (1, 1). -/
theorem w26 (hp : ∀ r, v40 (ix2 r l) = p) (hq : ∀ r, v42 (ix2 r l) = scaled y) (r : Fin 1) :
    k0_pay26 v40 v42 (ix2 r l) = w11 p (place y) := by
  have h := part21 v40 l p hp
  have h' := part22 v42 l y hq
  pointwise [k0_pay26]
  rw [h, h']
  rfl
/-- Anchor 0's share over the sum of its corners' weights. -/
theorem div27 (v21 : FVec Ideal S1x2048 .f32) (hp : ∀ r, v40 (ix2 r l) = p) (hq : ∀ r, v42 (ix2 r l) = scaled y) (r : Fin 1) :
    k0_pay27 v21 v40 v42 (ix2 r l) = Ideal.div (v21 (ix2 r l)) (mass p (place y)) := by
  have h1 := w23 v40 v42 l p y hp hq
  have h2 := w24 v40 v42 l p y hp hq
  have h3 := w25 v40 v42 l p y hp hq
  have h4 := w26 v40 v42 l p y hp hq
  pointwise [k0_pay27]
  rw [h1, h2, h3, h4]
  rfl
/-- The lower corner of the first place as a word. -/
theorem word28 (hp : ∀ r, v40 (ix2 r l) = p) (r : Fin 1) : k0_pay28 v40 (ix2 r l) = Ideal.fptosi 32 (cell p) := by
  have h := cell19 v40 l p hp
  pointwise [k0_pay28]
  rw [h]
  rfl
/-- The lower corner of the second place as a word. -/
theorem word29 (hq : ∀ r, v42 (ix2 r l) = scaled y) (r : Fin 1) : k0_pay29 v42 (ix2 r l) = Ideal.fptosi 32 (cell (place y)) := by
  have h := cell20 v42 l y hq
  pointwise [k0_pay29]
  rw [h]
  rfl
end First

section Second
variable (v12 v13 : FVec Ideal S1x2048 .f32) (l : Fin 2048) (r : Fin 1)

/-- Anchor 1: the lower corner of the first place. -/
theorem cell35 : k0_pay35 v12 (ix2 r l) = cell (place (v12 (ix2 r l))) := by
  have h := place33 v12 r l
  pointwise [k0_pay35]
  rw [h]
  rfl
/-- Anchor 1: the lower corner of the second place. -/
theorem cell38 : k0_pay38 (k0_pay36 v13) (k0_pay37 (F := Ideal)) (ix2 r l) = cell (place (v13 (ix2 r l))) := by
  have h := place34 v13 r l
  pointwise [k0_pay38, k0_pay37, k0_pay36]
  rw [h]
  rfl
/-- Anchor 1: the fraction of the first place. -/
theorem part39 : k0_pay39 (k0_pay33 v12) (k0_pay35 v12) (ix2 r l) = part (place (v12 (ix2 r l))) := by
  have h := place33 v12 r l
  have h' := cell35 v12 l r
  pointwise [k0_pay39]
  rw [h, h']
  rfl
/-- Anchor 1: the fraction of the second place. -/
theorem part40 : k0_pay40 (k0_pay34 v13) (k0_pay36 v13) (k0_pay37 (F := Ideal)) (ix2 r l) = part (place (v13 (ix2 r l))) := by
  have h := place34 v13 r l
  have h' := cell38 v13 l r
  pointwise [k0_pay40]
  rw [h, h']
  rfl
/-- Anchor 1's weight of corner (0, 0). -/
theorem w41 : k0_pay41 (k0_pay33 v12) (k0_pay34 v13) (k0_pay35 v12) (k0_pay36 v13) (k0_pay37 (F := Ideal)) (ix2 r l)
    = w00 (place (v12 (ix2 r l))) (place (v13 (ix2 r l))) := by
  have h := part39 v12 l r
  have h' := part40 v13 l r
  pointwise [k0_pay41]
  rw [h, h']
  rfl
/-- Anchor 1's weight of corner (1, 0). -/
theorem w42 : k0_pay42 (k0_pay33 v12) (k0_pay34 v13) (k0_pay35 v12) (k0_pay36 v13) (k0_pay37 (F := Ideal)) (ix2 r l)
    = w10 (place (v12 (ix2 r l))) (place (v13 (ix2 r l))) := by
  have h := part39 v12 l r
  have h' := part40 v13 l r
  pointwise [k0_pay42]
  rw [h, h']
  rfl
/-- Anchor 1's weight of corner (0, 1). -/
theorem w43 : k0_pay43 (k0_pay33 v12) (k0_pay34 v13) (k0_pay35 v12) (k0_pay36 v13) (k0_pay37 (F := Ideal)) (ix2 r l)
    = w01 (place (v12 (ix2 r l))) (place (v13 (ix2 r l))) := by
  have h := part39 v12 l r
  have h' := part40 v13 l r
  pointwise [k0_pay43]
  rw [h, h']
  rfl
/-- Anchor 1's weight of corner (1, 1). -/
theorem w44 : k0_pay44 (k0_pay33 v12) (k0_pay34 v13) (k0_pay35 v12) (k0_pay36 v13) (k0_pay37 (F := Ideal)) (ix2 r l)
    = w11 (place (v12 (ix2 r l))) (place (v13 (ix2 r l))) := by
  have h := part39 v12 l r
  have h' := part40 v13 l r
  pointwise [k0_pay44]
  rw [h, h']
  rfl
/-- Anchor 1's share over the sum of its corners' weights. -/
theorem div45 (v22 : FVec Ideal S1x2048 .f32) :
    k0_pay45 v22 (k0_pay33 v12) (k0_pay34 v13) (k0_pay35 v12) (k0_pay36 v13) (k0_pay37 (F := Ideal)) (ix2 r l)
    = Ideal.div (v22 (ix2 r l)) (mass (place (v12 (ix2 r l))) (place (v13 (ix2 r l)))) := by
  have h1 := w41 v12 v13 l r
  have h2 := w42 v12 v13 l r
  have h3 := w43 v12 v13 l r
  have h4 := w44 v12 v13 l r
  pointwise [k0_pay45]
  rw [h1, h2, h3, h4]
  rfl
/-- Anchor 1: the lower corner of the first place as a word. -/
theorem word46 : k0_pay46 (k0_pay35 v12) (ix2 r l) = Ideal.fptosi 32 (cell (place (v12 (ix2 r l)))) := by
  have h := cell35 v12 l r
  pointwise [k0_pay46]
  rw [h]
  rfl
/-- Anchor 1: the lower corner of the second place as a word. -/
theorem word47 : k0_pay47 (k0_pay36 v13) (k0_pay37 (F := Ideal)) (ix2 r l) = Ideal.fptosi 32 (cell (place (v13 (ix2 r l)))) := by
  have h := cell38 v13 l r
  pointwise [k0_pay47]
  rw [h]
  rfl
end Second

/-- The unnormalised weights the body holds, over the blocks it loads: the token's. -/
theorem raw_apply (x0 : Vec Ideal S8x2048 .f32) (x1 : Vec Ideal S8x128 .f32) (x2 : Vec Ideal S2048x2048 .f32)
    (k : Fin 64) (l : Fin 2048) :
    k0_pay87 x0 x1 x2 (ix2 k l) = raw (lane (View.ld x0 r0_0) (View.ld x2 r0_1) (View.ld x1 r0_2) l) k := by
  have hp := fun r : Fin 1 => place16 (View.ld x0 r0_0) (View.ld x2 r0_1) (View.ld x1 r0_2) r l
  have hq := fun r : Fin 1 => scaled17 (View.ld x0 r0_0) (View.ld x2 r0_1) (View.ld x1 r0_2) r l
  pointwise [k0_pay87, k0_pay86, k0_pay85, k0_pay84, k0_pay83, k0_pay82, k0_pay81, k0_pay80, k0_pay79, k0_pay78, k0_pay77,
    k0_pay76, k0_pay75, k0_pay74, k0_pay73, k0_pay49, k0_pay48, k0_pay32, k0_pay31, k0_pay30, k0_pay15]
  simp only [w23 _ _ l _ _ hp hq, w24 _ _ l _ _ hp hq, w25 _ _ l _ _ hp hq, w26 _ _ l _ _ hp hq, div27 _ _ l _ _ _ hp hq,
    word28 _ l _ hp, word29 _ l _ hq, w41, w42, w43, w44, div45, word46, word47, logit6, logit7, share13, share14]
  rfl

/-- A selection on the equality of two words is a choice on it. -/
theorem select_eq {α : Type} (a b : BitVec 32) (x y : α) :
    Scalar.select (IntOp.cmpi .eq a b) x y = if a = b then x else y := by
  unfold Scalar.select IntOp.cmpi
  by_cases h : a = b
  · simp [h]
  · have h' : (a == b) = false := by simpa using h
    simp [h, h']

/-- The pattern the greatest entry is sought from is −∞. -/
theorem ofBits_bot : Ideal.ofBits .f32 0xFF800000#32 = ⊥ := by
  simp [Ideal.ofBits, Ideal.ieee]

section Rounds
variable (v23 : IVec S64x2048 32) (l : Fin 2048) (h23 : ∀ k : Fin 64, v23 (ix2 k l) = BitVec.ofNat 32 k.val)
include h23

section Early
variable (v270 : FVec Ideal S64x2048 .f32) (g : Fin 64 → EReal) (hg : ∀ k, k0_pay50 v270 (ix2 k l) = after g 0 k)
include hg

/-- Round 0's maximum. -/
theorem top51 (r : Fin 1) : k0_pay51 v270 (ix2 r l) = top (after g 0) := by
  pointwise [k0_pay51]
  simp only [hg, ofBits_bot]
  rfl
/-- Round 0's position: the least at which the maximum stands. -/
theorem at52 (r : Fin 1) : k0_pay52 v23 v270 (ix2 r l) = topAt (after g 0) := by
  have h := top51 v23 l h23 v270 g hg
  pointwise [k0_pay52]
  simp only [hg, h, h23]
  rfl
/-- The entries that round 1 starts from. -/
theorem rest53 (k : Fin 64) : k0_pay53 v23 v270 (ix2 k l) = after g 1 k := by
  have h := at52 v23 l h23 v270 g hg
  pointwise [k0_pay53]
  simp only [hg, h, h23, select_eq]
  rfl
/-- Round 1's maximum. -/
theorem top54 (r : Fin 1) : k0_pay54 v23 v270 (ix2 r l) = top (after g 1) := by
  have h := rest53 v23 l h23 v270 g hg
  pointwise [k0_pay54]
  simp only [h, ofBits_bot]
  rfl
/-- Round 1's position: the least at which the maximum stands. -/
theorem at55 (r : Fin 1) : k0_pay55 v23 v270 (ix2 r l) = topAt (after g 1) := by
  have h := top54 v23 l h23 v270 g hg
  have h' := rest53 v23 l h23 v270 g hg
  pointwise [k0_pay55]
  simp only [h, h', h23]
  rfl
/-- The entries that round 2 starts from. -/
theorem rest56 (k : Fin 64) : k0_pay56 v23 v270 (ix2 k l) = after g 2 k := by
  have h := at55 v23 l h23 v270 g hg
  have h' := rest53 v23 l h23 v270 g hg
  pointwise [k0_pay56]
  simp only [h', h, h23, select_eq]
  rfl
/-- Round 2's maximum. -/
theorem top57 (r : Fin 1) : k0_pay57 v23 v270 (ix2 r l) = top (after g 2) := by
  have h := rest56 v23 l h23 v270 g hg
  pointwise [k0_pay57]
  simp only [h, ofBits_bot]
  rfl
/-- Round 2's position: the least at which the maximum stands. -/
theorem at58 (r : Fin 1) : k0_pay58 v23 v270 (ix2 r l) = topAt (after g 2) := by
  have h := top57 v23 l h23 v270 g hg
  have h' := rest56 v23 l h23 v270 g hg
  pointwise [k0_pay58]
  simp only [h, h', h23]
  rfl
/-- The entries that round 3 starts from. -/
theorem rest59 (k : Fin 64) : k0_pay59 v23 v270 (ix2 k l) = after g 3 k := by
  have h := at58 v23 l h23 v270 g hg
  have h' := rest56 v23 l h23 v270 g hg
  pointwise [k0_pay59]
  simp only [h', h, h23, select_eq]
  rfl
/-- Round 3's maximum. -/
theorem top60 (r : Fin 1) : k0_pay60 v23 v270 (ix2 r l) = top (after g 3) := by
  have h := rest59 v23 l h23 v270 g hg
  pointwise [k0_pay60]
  simp only [h, ofBits_bot]
  rfl
/-- Round 3 marks the entries that equal its maximum. -/
theorem mask61 (k : Fin 64) : k0_pay61 v23 v270 (ix2 k l) = BitVec.ofBool (decide (after g 3 k = top (after g 3))) := by
  have h := top60 v23 l h23 v270 g hg
  have h' := rest59 v23 l h23 v270 g hg
  pointwise [k0_pay61]
  simp only [h, h']
end Early

section Late
variable (v312 : FVec Ideal S64x2048 .f32) (v316 : IVec S64x2048 1) (g : Fin 64 → EReal)
  (hg : ∀ k, v312 (ix2 k l) = after g 3 k)
  (hm : ∀ k, v316 (ix2 k l) = BitVec.ofBool (decide (after g 3 k = top (after g 3))))
include hm

/-- Round 3's position: the least at which the maximum stands. -/
theorem at62 (r : Fin 1) : k0_pay62 v23 v316 (ix2 r l) = topAt (after g 3) := by
  pointwise [k0_pay62]
  simp only [hm, h23]
  unfold topAt Scalar.select
  refine congrArg (fun f => Finset.fold IntOp.minsi 2147483647#32 f Finset.univ) (funext fun k => ?_)
  by_cases h : after g 3 k = top (after g 3) <;> simp [h]
include hg
/-- The entries that round 4 starts from. -/
theorem rest63 (k : Fin 64) : k0_pay63 v23 v312 v316 (ix2 k l) = after g 4 k := by
  have h := at62 v23 l h23 v316 g hm
  pointwise [k0_pay63]
  simp only [hg, h, h23, select_eq]
  rfl
/-- Round 4's maximum. -/
theorem top64 (r : Fin 1) : k0_pay64 v23 v312 v316 (ix2 r l) = top (after g 4) := by
  have h := rest63 v23 l h23 v312 v316 g hg hm
  pointwise [k0_pay64]
  simp only [h, ofBits_bot]
  rfl
/-- Round 4's position: the least at which the maximum stands. -/
theorem at65 (r : Fin 1) : k0_pay65 v23 v312 v316 (ix2 r l) = topAt (after g 4) := by
  have h := top64 v23 l h23 v312 v316 g hg hm
  have h' := rest63 v23 l h23 v312 v316 g hg hm
  pointwise [k0_pay65]
  simp only [h, h', h23]
  rfl
/-- The entries that round 5 starts from. -/
theorem rest66 (k : Fin 64) : k0_pay66 v23 v312 v316 (ix2 k l) = after g 5 k := by
  have h := at65 v23 l h23 v312 v316 g hg hm
  have h' := rest63 v23 l h23 v312 v316 g hg hm
  pointwise [k0_pay66]
  simp only [h', h, h23, select_eq]
  rfl
/-- Round 5's maximum. -/
theorem top67 (r : Fin 1) : k0_pay67 v23 v312 v316 (ix2 r l) = top (after g 5) := by
  have h := rest66 v23 l h23 v312 v316 g hg hm
  pointwise [k0_pay67]
  simp only [h, ofBits_bot]
  rfl
/-- Round 5's position: the least at which the maximum stands. -/
theorem at68 (r : Fin 1) : k0_pay68 v23 v312 v316 (ix2 r l) = topAt (after g 5) := by
  have h := top67 v23 l h23 v312 v316 g hg hm
  have h' := rest66 v23 l h23 v312 v316 g hg hm
  pointwise [k0_pay68]
  simp only [h, h', h23]
  rfl
/-- The entries that round 6 starts from. -/
theorem rest69 (k : Fin 64) : k0_pay69 v23 v312 v316 (ix2 k l) = after g 6 k := by
  have h := at68 v23 l h23 v312 v316 g hg hm
  have h' := rest66 v23 l h23 v312 v316 g hg hm
  pointwise [k0_pay69]
  simp only [h', h, h23, select_eq]
  rfl
/-- Round 6's maximum. -/
theorem top70 (r : Fin 1) : k0_pay70 v23 v312 v316 (ix2 r l) = top (after g 6) := by
  have h := rest69 v23 l h23 v312 v316 g hg hm
  pointwise [k0_pay70]
  simp only [h, ofBits_bot]
  rfl
/-- Round 6's position: the least at which the maximum stands. -/
theorem at71 (r : Fin 1) : k0_pay71 v23 v312 v316 (ix2 r l) = topAt (after g 6) := by
  have h := top70 v23 l h23 v312 v316 g hg hm
  have h' := rest69 v23 l h23 v312 v316 g hg hm
  pointwise [k0_pay71]
  simp only [h, h', h23]
  rfl
/-- The entries that round 7 starts from. -/
theorem rest72 (k : Fin 64) : k0_pay72 v23 v312 v316 (ix2 k l) = after g 7 k := by
  have h := at71 v23 l h23 v312 v316 g hg hm
  have h' := rest69 v23 l h23 v312 v316 g hg hm
  pointwise [k0_pay72]
  simp only [h', h, h23, select_eq]
  rfl
end Late

section Last
variable (v360 : FVec Ideal S64x2048 .f32) (g : Fin 64 → EReal) (hg : ∀ k, v360 (ix2 k l) = after g 7 k)
include hg

/-- Round 7's maximum. -/
theorem top1 (r : Fin 1) : k0_pay1 v360 (ix2 r l) = top (after g 7) := by
  pointwise [k0_pay1]
  simp only [hg, ofBits_bot]
  rfl

/-- The eight rows of positions, stacked: row `r` is round `r`'s. -/
theorem stack2 (a b c d e f h : IVec S1x2048 32) (ha : ∀ r, a (ix2 r l) = topAt (after g 0)) (hb : ∀ r, b (ix2 r l) = topAt (after g 1))
    (hc : ∀ r, c (ix2 r l) = topAt (after g 2)) (hd : ∀ r, d (ix2 r l) = topAt (after g 3)) (he : ∀ r, e (ix2 r l) = topAt (after g 4))
    (hf : ∀ r, f (ix2 r l) = topAt (after g 5)) (hh : ∀ r, h (ix2 r l) = topAt (after g 6)) (r : Fin 8) :
    k0_pay2 v23 a b c d e f h v360 (ix2 r l) = topAt (after g r.val) := by
  have h1 := top1 v23 l h23 v360 g hg
  fin_vals r with hr <;>
  · pointwise [k0_pay2]
    simp only [hr, Nat.reduceSub, Nat.reduceLT, ↓reduceDIte, ha, hb, hc, hd, he, hf, hh, h1, hg, h23]
    try rfl

/-- The eight rows of entries, stacked: row `r` is round `r`'s. -/
theorem stack3 (a b c d e f h : FVec Ideal S1x2048 .f32) (ha : ∀ r, a (ix2 r l) = top (after g 0)) (hb : ∀ r, b (ix2 r l) = top (after g 1))
    (hc : ∀ r, c (ix2 r l) = top (after g 2)) (hd : ∀ r, d (ix2 r l) = top (after g 3)) (he : ∀ r, e (ix2 r l) = top (after g 4))
    (hf : ∀ r, f (ix2 r l) = top (after g 5)) (hh : ∀ r, h (ix2 r l) = top (after g 6)) (r : Fin 8) :
    k0_pay3 a b c d e f h v360 (ix2 r l) = top (after g r.val) := by
  have h1 := top1 v23 l h23 v360 g hg
  fin_vals r with hr <;>
  · pointwise [k0_pay3]
    simp only [hr, Nat.reduceSub, Nat.reduceLT, ↓reduceDIte, ha, hb, hc, hd, he, hf, hh, h1, hg, h23]
    try rfl
end Last
end Rounds

end Cert.Router

end
-- ==== Proof.KernelOut.lean ====
/- What the kernel's body stores for a block of tokens, over the blocks it loads. -/
module

public import proofs.«01_k».proof.Proof.KernelBlock
public import Idealize.ShloMosaic.Lib.Pipeline.ValueKit.Basic

@[expose] public section

noncomputable section

namespace Cert.Router

open Idealize.ShloMosaic Idealize.SL.Sem Cert.KernelIdeal Cert.KernelIdeal.Gen

set_option maxRecDepth 16384

section Block
variable (x0 : Vec Ideal S8x2048 .f32) (x1 : Vec Ideal S8x128 .f32) (x2 : Vec Ideal S2048x2048 .f32)

/-- The unnormalised weights the body holds: the token's. -/
theorem raw_apply' (k : Fin 64) (l : Fin 2048) : k0_pay87 x0 x1 x2 (ix2 k l) = raw (lane x0 x2 x1 l) k := by
  have h0 : View.ld x0 r0_0 = x0 := View.ld_unit_lit _ _ (by decide)
  have h1 : View.ld x1 r0_2 = x1 := View.ld_unit_lit _ _ (by decide)
  have h2 : View.ld x2 r0_1 = x2 := View.ld_unit_lit _ _ (by decide)
  rw [raw_apply, h0, h1, h2]

/-- The weights the body holds, normalised: the token's. -/
theorem prob_apply (k : Fin 64) (l : Fin 2048) :
    k0_pay50 (k0_pay87 x0 x1 x2) (ix2 k l) = after (prob (lane x0 x2 x1 l)) 0 k := by
  have h := fun k => raw_apply' x0 x1 x2 k l
  pointwise [k0_pay50]
  simp only [h]
  rfl

/-- Entry `k` of each lane of the positions is `k`. -/
theorem pay73_apply (k : Fin 64) (l : Fin 2048) : k0_pay73 x0 x1 x2 (ix2 k l) = BitVec.ofNat 32 k.val := by
  pointwise [k0_pay73]

/-- The entries that round 3 starts from. -/
theorem rest88 (k : Fin 64) (l : Fin 2048) : k0_pay88 x0 x1 x2 (ix2 k l) = after (prob (lane x0 x2 x1 l)) 3 k :=
  rest59 _ l (fun k => pay73_apply x0 x1 x2 k l) _ _ (fun k => prob_apply x0 x1 x2 k l) k
/-- Round 3 marks the entries that equal its maximum. -/
theorem mask89 (k : Fin 64) (l : Fin 2048) : k0_pay89 x0 x1 x2 (ix2 k l)
    = BitVec.ofBool (decide (after (prob (lane x0 x2 x1 l)) 3 k = top (after (prob (lane x0 x2 x1 l)) 3))) :=
  mask61 _ l (fun k => pay73_apply x0 x1 x2 k l) _ _ (fun k => prob_apply x0 x1 x2 k l) k
/-- The entries that round 7 starts from. -/
theorem rest90 (k : Fin 64) (l : Fin 2048) : k0_pay90 x0 x1 x2 (ix2 k l) = after (prob (lane x0 x2 x1 l)) 7 k :=
  rest72 _ l (fun k => pay73_apply x0 x1 x2 k l) _ _ _ (fun k => rest88 x0 x1 x2 k l) (fun k => mask89 x0 x1 x2 k l) k

/-- The positions the body stores: row `r` holds the positions round `r` takes, one token per lane. -/
theorem out3_apply (r : Fin 8) (l : Fin 2048) :
    out0_3 x0 x1 x2 (ix2 r l) = topAt (after (prob (lane x0 x2 x1 l)) r.val) := by
  have h23 := fun k => pay73_apply x0 x1 x2 k l
  have hg := fun k => prob_apply x0 x1 x2 k l
  have h3 := fun k => rest88 x0 x1 x2 k l
  have hm := fun k => mask89 x0 x1 x2 k l
  unfold out0_3
  rw [View.canon_cons_unit_lit _ _ _ (by decide)]
  exact stack2 _ l h23 _ _ (fun k => rest90 x0 x1 x2 k l) _ _ _ _ _ _ _
    (at52 _ l h23 _ _ hg) (at55 _ l h23 _ _ hg) (at58 _ l h23 _ _ hg) (at62 _ l h23 _ _ hm)
    (at65 _ l h23 _ _ _ h3 hm) (at68 _ l h23 _ _ _ h3 hm) (at71 _ l h23 _ _ _ h3 hm) r

/-- The entries the body stores: row `r` holds the entries round `r` takes, one token per lane. -/
theorem out4_apply (r : Fin 8) (l : Fin 2048) :
    out0_4 x0 x1 x2 (ix2 r l) = top (after (prob (lane x0 x2 x1 l)) r.val) := by
  have h23 := fun k => pay73_apply x0 x1 x2 k l
  have hg := fun k => prob_apply x0 x1 x2 k l
  have h3 := fun k => rest88 x0 x1 x2 k l
  have hm := fun k => mask89 x0 x1 x2 k l
  unfold out0_4
  rw [View.canon_cons_unit_lit _ _ _ (by decide)]
  exact stack3 _ l h23 _ _ (fun k => rest90 x0 x1 x2 k l) _ _ _ _ _ _ _
    (top51 _ l h23 _ _ hg) (top54 _ l h23 _ _ hg) (top57 _ l h23 _ _ hg) (top60 _ l h23 _ _ hg)
    (top64 _ l h23 _ _ _ h3 hm) (top67 _ l h23 _ _ _ h3 hm) (top70 _ l h23 _ _ _ h3 hm) r
end Block

end Cert.Router

end
-- ==== Proof.KernelArrays.lean ====
/- The arrays the kernel's pipeline reads, and the tokens' logits in its blocks. -/
module

public import proofs.«01_k».proof.Proof.Gen.KernelIdeal.Frame
public import proofs.«01_k».proof.Proof.KernelOut
public import Idealize.ShloMosaic.Lib.Pipeline.ValueKit
public import Idealize.ShloMosaic.Lib.StableHlo.Run
public import Idealize.ShloMosaic.Lib.Routing.OpsSet
public import Idealize.ShloMosaic.Lib.Routing.OpsOne
public import Idealize.ShloMosaic.Lib.Pointwise.IndexBridge

@[expose] public section

noncomputable section

namespace Cert.Router

open Idealize.ShloMosaic Idealize.ShloMosaic.TcCoe Idealize.SL.Sem Idealize.ShloMosaic.StableHlo Cert.KernelIdeal Cert.KernelIdeal.Gen

set_option maxRecDepth 16384

/-- The weights' array: eight rows of zeros, the six rows of the argument set from row 0 on. -/
def rows8 (W : FVec Ideal S6x2048 .f32) : FVec Ideal S8x2048 .f32 :=
  Host.scatter scatter_S8x2048_S1_S6x2048_01_n_0_0 (fun _ b => b)
    (broadcastInDim S8x2048 ![] bcast_S_S8x2048 (constant S_ .f32 0x00000000#32)) (broadcastInDim S1 ![] bcast_S_S1 (constantI S_ 32 0#32)) W

/-- The biases' array: zeros, the six biases set in column 0 from row 0 on. -/
def bias8 (b : FVec Ideal S6 .f32) : FVec Ideal S8x128 .f32 :=
  Host.scatter scatter_S8x128_S2_S6_0_1_01_0 (fun _ b => b)
    (broadcastInDim S8x128 ![] bcast_S_S8x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) b

section Launch
variable (m : (ℓ : Loc nD τ sig) → Buf (Elt Ideal) ℓ) (c : Dev nD)

/-- The pipeline finds the weights' rows in its first array. -/
theorem V_rows : V m c main_call0_v2 = rows8 (m ((c.tc : Thread nD τ).loc main_arg1)) := by
  unfold_abbrev_sides
  simp only [hostOps0, List.flatten_cons, List.flatten_nil, List.append_nil, TRef.nullary, TRef.binary, TRef.ternary, TRef.unary, TRef.toBuf, TRef.ofBuf, cast_eq]
  after_results_simp
  rfl

/-- The pipeline finds the biases in column 0 of its second array. -/
theorem V_bias : V m c main_call0_v7 = bias8 (m ((c.tc : Thread nD τ).loc main_arg2)) := by
  unfold_abbrev_sides
  simp only [hostOps0, List.flatten_cons, List.flatten_nil, List.append_nil, TRef.nullary, TRef.binary, TRef.ternary, TRef.unary, TRef.toBuf, TRef.ofBuf, cast_eq]
  after_results_simp
  rfl
end Launch

/-- Row `j` of the weights' array, `j` below six: row `j` of the argument. -/
theorem rows8_apply (W : FVec Ideal S6x2048 .f32) (j : Fin 6) (x : Fin 2048) : rows8 W (ix2 (j.castLE (by decide)) x) = W (ix2 j x) := by
  have hl : ∀ (a : Fin 6) (y : Fin 2048) (r : Fin 8) (z : Fin 2048),
      scatter_S8x2048_S1_S6x2048_01_n_0_0.resultIdx? (ix2 a y) (broadcastInDim S1 ![] bcast_S_S1 (constantI S_ 32 0#32)) = some (ix2 r z)
        ↔ a.val = r.val ∧ y = z := fun a y r z => by
    rw [ix2_eq_valueIdx r z]
    refine (Routing.resultIdx?_ix2 _ _ _ r z).trans ?_
    have hs : ∀ q, scatter_S8x2048_S1_S6x2048_01_n_0_0.start (ix2 a y) (broadcastInDim S1 ![] bcast_S_S1 (constantI S_ 32 0#32)) q = 0 := fun q => by
      unfold ScatterDims.start
      split <;> rfl
    have h0 : scatter_S8x2048_S1_S6x2048_01_n_0_0.window (ix2 a y) 0 = a.val := rfl
    have h1 : scatter_S8x2048_S1_S6x2048_01_n_0_0.window (ix2 a y) 1 = y.val := rfl
    rw [hs, hs, h0, h1, Fin.ext_iff]
    omega
  unfold rows8
  refine Routing.scatter_set_hit _ _ _ W _ _ (fun k hk => ?_) (ix2 j x) ((hl _ _ _ _).mpr ⟨rfl, rfl⟩)
  rw [← ix2_eta (n0 := 6) (n1 := 2048) k] at hk ⊢
  obtain ⟨h1, h2⟩ := (hl _ _ _ _).mp hk
  have h1' : k 0 = j := Fin.ext h1
  rw [h1', h2]

/-- Entry `j` of column 0 of the biases' array, `j` below six: bias `j`. -/
theorem bias8_apply (b : FVec Ideal S6 .f32) (j : Fin 6) : bias8 b (ix2 (j.castLE (by decide)) 0) = b (ix1 j) := by
  have hj := j.isLt
  have hi : ∀ k : Fin 2, concatenate S2 0 [⟨S1, broadcastInDim S1 ![] bcast_S_S1 (constantI S_ 32 0#32)⟩, ⟨S1, broadcastInDim S1 ![] bcast_S_S1 (constantI S_ 32 0#32)⟩]
      concatenates_S1_S1_S2_d0 (ix1 k) = 0#32 := fun k => by
    fin_cases k <;> rfl
  unfold bias8
  refine (Routing.scatter_column_signed (R := 8) (C := 128) (U := 6) scatter_S8x128_S2_S6_0_1_01_0 (by decide) rfl rfl rfl _ _ b (ix2 (j.castLE (by decide)) 0)).trans ?_
  rw [← ix1_eq_valueIdx, ← ix1_eq_valueIdx, ← ix1_eq_valueIdx, hi, hi, if_pos ⟨rfl, by simp, by simp⟩]
  refine congrArg b (congrArg ix1 (Fin.ext ?_))
  show ((j.val : Int) - 0).toNat % 6 = j.val
  omega

/-! ## The blocks -/

section Blocks
variable (m : (ℓ : Loc nD τ sig) → Buf (Elt Ideal) ℓ) (c : Dev nD)

/-- The block of weights is the whole array at every grid point. -/
theorem index0 : ∀ t : Fin cfg0.N, win0_0.index t = ![0, 0] := (by decide +kernel : ∀ t : Fin grid0.N, win0_0.index t = ![0, 0])
/-- The block of biases is the whole array at every grid point. -/
theorem index1 : ∀ t : Fin cfg0.N, win0_1.index t = ![0, 0] := (by decide +kernel : ∀ t : Fin grid0.N, win0_1.index t = ![0, 0])
/-- Grid point `t` reads block `t` of the tokens. -/
theorem index2 : ∀ t : Fin cfg0.N, win0_2.index t = ![t.val, 0] := (by decide +kernel : ∀ t : Fin grid0.N, win0_2.index t = ![t.val, 0])
/-- Grid point `t` writes block `t` of the expert numbers' columns. -/
theorem index3 : ∀ t : Fin cfg0.N, win0_3.index t = ![0, t.val] := (by decide +kernel : ∀ t : Fin grid0.N, win0_3.index t = ![0, t.val])
/-- Grid point `t` writes block `t` of the weights' columns. -/
theorem index4 : ∀ t : Fin cfg0.N, win0_4.index t = ![0, t.val] := (by decide +kernel : ∀ t : Fin grid0.N, win0_4.index t = ![0, t.val])

/-- Token `2048 * t + l`. -/
def token (t : Fin cfg0.N) (l : Fin 2048) : Fin 16384 :=
  ⟨t.val * 2048 + l.val, by have := t.isLt; have := l.isLt; have : cfg0.N = 8 := N_0; omega⟩

/-- The first block at a grid point: the weights' array. -/
theorem blk0 (t : Fin cfg0.N) : iblk m c 0 t = rows8 (m ((c.tc : Thread nD τ).loc main_arg1)) := by
  rw [← V_rows]
  funext y
  obtain ⟨r, x, rfl⟩ : ∃ r x, y = ix2 (n0 := 8) (n1 := 2048) r x := ⟨y 0, y 1, eq_ix2 y⟩
  blk_ext [iblk, index0 t]

/-- The second block at a grid point: the biases' array. -/
theorem blk1 (t : Fin cfg0.N) : iblk m c 1 t = bias8 (m ((c.tc : Thread nD τ).loc main_arg2)) := by
  rw [← V_bias]
  funext y
  obtain ⟨r, x, rfl⟩ : ∃ r x, y = ix2 (n0 := 8) (n1 := 128) r x := ⟨y 0, y 1, eq_ix2 y⟩
  blk_ext [iblk, index1 t]

/-- The third block at grid point `t`: row `l` is token `2048 * t + l`. -/
theorem blk2 (t : Fin cfg0.N) (l x : Fin 2048) : iblk m c 2 t (ix2 l x) = m ((c.tc : Thread nD τ).loc main_arg0) (ix2 (token t l) x) := by
  rw [← V_main_arg0 m c]
  unfold token
  blk_ext [iblk, index2 t]
end Blocks

end Cert.Router

end
-- ==== Proof.RefStages.lean ====
/- The reference, stage by stage, and its two results as the composition of the stages. -/
module

public import proofs.«01_k».proof.Proof.Gen.ReferenceIdeal.Run
public import Idealize.ShloMosaic.Lib.Pointwise

@[expose] public section

noncomputable section

namespace Cert.Router.Ref

open Idealize.ShloMosaic Idealize.ShloMosaic.TcCoe Idealize.SL.Sem Cert.ReferenceIdeal Cert.ReferenceIdeal.Gen Cert.ReferenceIdeal.Value

set_option maxRecDepth 16384

/-- The six logits of each token. -/
def logits (h : FVec Ideal S16384x2048 .f32) (W : FVec Ideal S6x2048 .f32) (b : FVec Ideal S6 .f32) : FVec Ideal S16384x6 .f32 :=
  addf (Host.dotGeneral dot_S16384x2048_S2048x6_S16384x6_1_0_0_1_n_n none h (transpose S2048x6 [1, 0] W transposes_S6x2048_S2048x6_1_0)) (broadcastInDim S16384x6 ![0, 1] bcast_S1x6_S16384x6_0_1 (broadcastInDim S1x6 ![1] bcast_S6_S1x6_1 b))

/-- Each anchor's own logit. -/
def anchors (x : FVec Ideal S16384x6 .f32) : FVec Ideal S16384x2 .f32 :=
  shapeCast _ (extractStridedSlice S16384x2x1 ![0, 0, 2] (shapeCast _ x shapeCasts_S16384x6_S16384x2x3) slices_S16384x2x3_S16384x2x1_0_0_2) shapeCasts_S16384x2x1_S16384x2

/-- The exponential of each anchor's logit below the greater of the two. -/
def lifts (a : FVec Ideal S16384x2 .f32) : FVec Ideal S16384x2 .f32 :=
  Host.exp (subf a (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf a (constant S_ .f32 0xFF800000#32) reducesTo_S16384x2_S16384_d1 h_S_)))))

/-- Each anchor's share. -/
def shares (e : FVec Ideal S16384x2 .f32) : FVec Ideal S16384x2 .f32 :=
  Host.divf e (broadcastInDim S16384x2 ![0, 1] bcast_S16384x1_S16384x2_0_1 (broadcastInDim S16384x1 ![0] bcast_S16384_S16384x1_0 (Host.reduceAdd e (constant S_ .f32 0x00000000#32) reducesTo_S16384x2_S16384_d1 h_S_)))

/-- The length of each axis of the grid. -/
def spans : FVec Ideal S1x1x2 .f32 :=
  shapeCast _ (sitofp .f32 (subi (constantI S2 32 8#32) (broadcastInDim S2 ![] bcast_S_S2 (constantI S_ 32 1#32)))) shapeCasts_S2_S1x1x2

/-- The clipped logistic of each coordinate. -/
def sigmoids (x : FVec Ideal S16384x6 .f32) : FVec Ideal S16384x2x2 .f32 :=
  minimumf (broadcastInDim S16384x2x2 ![] bcast_S_S16384x2x2 (constant S_ .f32 0x3F7FFFEF#32)) (maximumf (broadcastInDim S16384x2x2 ![] bcast_S_S16384x2x2 (constant S_ .f32 0x358637BD#32)) (Host.divf (broadcastInDim S16384x2x2 ![] bcast_S_S16384x2x2 (constant S_ .f32 0x3F800000#32)) (addf (broadcastInDim S16384x2x2 ![] bcast_S_S16384x2x2 (constant S_ .f32 0x3F800000#32)) (Host.exp (Host.negf (extractStridedSlice S16384x2x2 ![0, 0, 0] (shapeCast _ x shapeCasts_S16384x6_S16384x2x3) slices_S16384x2x3_S16384x2x2_0_0_0))))))

/-- The place of each coordinate on the grid. -/
def places (g : FVec Ideal S1x1x2 .f32) (u : FVec Ideal S16384x2x2 .f32) : FVec Ideal S16384x2x2 .f32 :=
  maximumf (minimumf (mulf u (broadcastInDim S16384x2x2 ![0, 1, 2] bcast_S1x1x2_S16384x2x2_0_1_2 g)) (broadcastInDim S16384x2x2 ![0, 1, 2] bcast_S1x1x2_S16384x2x2_0_1_2 (maximumf (broadcastInDim S1x1x2 ![] bcast_S_S1x1x2 (constant S_ .f32 0x00000000#32)) (subf g (broadcastInDim S1x1x2 ![] bcast_S_S1x1x2 (constant S_ .f32 0x358637BD#32)))))) (broadcastInDim S16384x2x2 ![] bcast_S_S16384x2x2 (constant S_ .f32 0x00000000#32))

/-- The cell of each coordinate. -/
def cells (p : FVec Ideal S16384x2x2 .f32) : IVec S16384x2x2 32 :=
  minsi (broadcastInDim S16384x2x2 ![0, 1, 2] bcast_S1x1x2_S16384x2x2_0_1_2 (shapeCast _ (subi (constantI S2 32 8#32) (broadcastInDim S2 ![] bcast_S_S2 (constantI S_ 32 2#32))) shapeCasts_S2_S1x1x2)) (maxsi (broadcastInDim S16384x2x2 ![] bcast_S_S16384x2x2 (constantI S_ 32 0#32)) (fptosi 32 (Host.floor p)))

/-- How far into its cell each coordinate lies. -/
def parts (p : FVec Ideal S16384x2x2 .f32) (c : IVec S16384x2x2 32) : FVec Ideal S16384x2x2 .f32 :=
  minimumf (broadcastInDim S16384x2x2 ![] bcast_S_S16384x2x2 (constant S_ .f32 0x3F7FFFEF#32)) (maximumf (broadcastInDim S16384x2x2 ![] bcast_S_S16384x2x2 (constant S_ .f32 0x358637BD#32)) (subf p (sitofp .f32 c)))

/-- The four corners of a cell. -/
def bits : IVec S1x1x4x2 32 :=
  shapeCast _ (fun i => lit0 (S4x2.rowMajor i)) shapeCasts_S4x2_S1x1x4x2

/-- The coordinates of the four corners. -/
def nodes (c : IVec S16384x2x2 32) (t : IVec S1x1x4x2 32) : IVec S16384x2x4x2 32 :=
  minsi (broadcastInDim S16384x2x4x2 ![0, 1, 2, 3] bcast_S1x1x1x2_S16384x2x4x2_0_1_2_3 (shapeCast _ (subi (constantI S2 32 8#32) (broadcastInDim S2 ![] bcast_S_S2 (constantI S_ 32 1#32))) shapeCasts_S2_S1x1x1x2)) (maxsi (broadcastInDim S16384x2x4x2 ![] bcast_S_S16384x2x4x2 (constantI S_ 32 0#32)) (addi (broadcastInDim S16384x2x4x2 ![0, 1, 2, 3] bcast_S16384x2x1x2_S16384x2x4x2_0_1_2_3 (broadcastInDim S16384x2x1x2 ![0, 1, 3] bcast_S16384x2x2_S16384x2x1x2_0_1_3 c)) (broadcastInDim S16384x2x4x2 ![0, 1, 2, 3] bcast_S1x1x4x2_S16384x2x4x2_0_1_2_3 t)))

/-- The expert at each corner. -/
def experts (d : IVec S16384x2x4x2 32) : IVec S16384x2x4 32 :=
  minsi (broadcastInDim S16384x2x4 ![] bcast_S_S16384x2x4 (constantI S_ 32 63#32)) (maxsi (broadcastInDim S16384x2x4 ![] bcast_S_S16384x2x4 (constantI S_ 32 0#32)) (Host.reduce IntOp.addi (muli d (broadcastInDim S16384x2x4x2 ![0, 1, 2, 3] bcast_S1x1x1x2_S16384x2x4x2_0_1_2_3 (shapeCast _ (fun i => lit1 (S2.rowMajor i)) shapeCasts_S2_S1x1x1x2))) (constantI S_ 32 0#32) reducesTo_S16384x2x4x2_S16384x2x4_d3 h_S_))

/-- Each corner's weight along each axis. -/
def sides (f : FVec Ideal S16384x2x2 .f32) (t : IVec S1x1x4x2 32) : FVec Ideal S16384x2x4x2 .f32 :=
  select (broadcastInDim S16384x2x4x2 ![0, 1, 2, 3] bcast_S1x1x4x2_S16384x2x4x2_0_1_2_3 (cmpi .ne t (broadcastInDim S1x1x4x2 ![] bcast_S_S1x1x4x2 (constantI S_ 32 0#32)))) (broadcastInDim S16384x2x4x2 ![0, 1, 2, 3] bcast_S16384x2x1x2_S16384x2x4x2_0_1_2_3 (broadcastInDim S16384x2x1x2 ![0, 1, 3] bcast_S16384x2x2_S16384x2x1x2_0_1_3 f)) (broadcastInDim S16384x2x4x2 ![0, 1, 2, 3] bcast_S16384x2x1x2_S16384x2x4x2_0_1_2_3 (subf (broadcastInDim S16384x2x1x2 ![] bcast_S_S16384x2x1x2 (constant S_ .f32 0x3F800000#32)) (broadcastInDim S16384x2x1x2 ![0, 1, 3] bcast_S16384x2x2_S16384x2x1x2_0_1_3 f)))

/-- Each corner's weight. -/
def corners (z : FVec Ideal S16384x2x4x2 .f32) : FVec Ideal S16384x2x4 .f32 :=
  mulf (shapeCast _ (extractStridedSlice S16384x2x4x1 ![0, 0, 0, 0] z slices_S16384x2x4x2_S16384x2x4x1_0_0_0_0) shapeCasts_S16384x2x4x1_S16384x2x4) (shapeCast _ (extractStridedSlice S16384x2x4x1 ![0, 0, 0, 1] z slices_S16384x2x4x2_S16384x2x4x1_0_0_0_1) shapeCasts_S16384x2x4x1_S16384x2x4)

/-- Each corner's weight, normalised, times its anchor's share. -/
def weights (w : FVec Ideal S16384x2x4 .f32) (s : FVec Ideal S16384x2 .f32) : FVec Ideal S16384x2x4 .f32 :=
  mulf (Host.divf w (broadcastInDim S16384x2x4 ![0, 1, 2] bcast_S16384x2x1_S16384x2x4_0_1_2 (addf (broadcastInDim S16384x2x1 ![0, 1] bcast_S16384x2_S16384x2x1_0_1 (Host.reduceAdd w (constant S_ .f32 0x00000000#32) reducesTo_S16384x2x4_S16384x2_d2 h_S_)) (broadcastInDim S16384x2x1 ![] bcast_S_S16384x2x1 (constant S_ .f32 0x3089705F#32))))) (broadcastInDim S16384x2x4 ![0, 1, 2] bcast_S16384x2x1_S16384x2x4_0_1_2 (broadcastInDim S16384x2x1 ![0, 1] bcast_S16384x2_S16384x2x1_0_1 s))

/-- The experts of a token in one row. -/
def flatExperts (i : IVec S16384x2x4 32) : IVec S16384x8 32 :=
  shapeCast _ i shapeCasts_S16384x2x4_S16384x8

/-- The weights of a token in one row. -/
def flatWeights (y : FVec Ideal S16384x2x4 .f32) : FVec Ideal S16384x8 .f32 :=
  shapeCast _ y shapeCasts_S16384x2x4_S16384x8

/-- Where each weight is added: the token and the expert. -/
def spots (j : IVec S16384x8 32) : IVec S16384x8x2 32 :=
  concatenate S16384x8x2 2 [⟨S16384x8x1, broadcastInDim S16384x8x1 ![0, 1] bcast_S16384x8_S16384x8x1_0_1 (broadcastInDim S16384x8 ![0, 1] bcast_S16384x1_S16384x8_0_1 (select (cmpi .slt (broadcastInDim S16384x1 ![0] bcast_S16384_S16384x1_0 (iotaInDim S16384 32 0)) (broadcastInDim S16384x1 ![] bcast_S_S16384x1 (constantI S_ 32 0#32))) (addi (broadcastInDim S16384x1 ![0] bcast_S16384_S16384x1_0 (iotaInDim S16384 32 0)) (broadcastInDim S16384x1 ![] bcast_S_S16384x1 (constantI S_ 32 16384#32))) (broadcastInDim S16384x1 ![0] bcast_S16384_S16384x1_0 (iotaInDim S16384 32 0))))⟩, ⟨S16384x8x1, broadcastInDim S16384x8x1 ![0, 1] bcast_S16384x8_S16384x8x1_0_1 (select (cmpi .slt j (broadcastInDim S16384x8 ![] bcast_S_S16384x8 (constantI S_ 32 0#32))) (addi j (broadcastInDim S16384x8 ![] bcast_S_S16384x8 (constantI S_ 32 64#32))) j)⟩] concatenates_S16384x8x1_S16384x8x1_S16384x8x2_d2

/-- Each token's weight at each expert before normalising. -/
def sums (k : IVec S16384x8x2 32) (v : FVec Ideal S16384x8 .f32) : FVec Ideal S16384x64 .f32 :=
  maximumf (broadcastInDim S16384x64 ![] bcast_S_S16384x64 (constant S_ .f32 0x00000000#32)) (Host.scatterAdd scatter_S16384x64_S16384x8x2_S16384x8_n_01_01_2 (broadcastInDim S16384x64 ![] bcast_S_S16384x64 (constant S_ .f32 0x00000000#32)) k v)

/-- Each token's weight at each expert. -/
def probs (r : FVec Ideal S16384x64 .f32) : FVec Ideal S16384x64 .f32 :=
  Host.divf r (broadcastInDim S16384x64 ![0, 1] bcast_S16384x1_S16384x64_0_1 (addf (broadcastInDim S16384x1 ![0] bcast_S16384_S16384x1_0 (Host.reduceAdd r (constant S_ .f32 0x00000000#32) reducesTo_S16384x64_S16384_d1 h_S_)) (broadcastInDim S16384x1 ![] bcast_S_S16384x1 (constant S_ .f32 0x3089705F#32))))

section Composed
variable (h : FVec Ideal S16384x2048 .f32) (W : FVec Ideal S6x2048 .f32) (b : FVec Ideal S6 .f32)

/-- The logits of all tokens, of the arguments. -/
def logitsOf : FVec Ideal S16384x6 .f32 := logits h W b
/-- The places of all anchors, of the arguments. -/
def placesOf : FVec Ideal S16384x2x2 .f32 := places spans (sigmoids (logits h W b))
/-- The lower corners of all places, of the arguments. -/
def cellsOf : IVec S16384x2x2 32 := cells (placesOf h W b)
/-- The experts at the four corners of every anchor, of the arguments. -/
def expertsOf : IVec S16384x2x4 32 := experts (nodes (cellsOf h W b) bits)
/-- The weights of the four corners, before they are normalised, of the arguments. -/
def cornersOf : FVec Ideal S16384x2x4 .f32 := corners (sides (parts (placesOf h W b) (cellsOf h W b)) bits)
/-- The weights of the four corners times the anchor's share, of the arguments. -/
def weightsOf : FVec Ideal S16384x2x4 .f32 := weights (cornersOf h W b) (shares (lifts (anchors (logits h W b))))
/-- The weights summed at each expert, of the arguments. -/
def sumsOf : FVec Ideal S16384x64 .f32 := sums (spots (flatExperts (expertsOf h W b))) (flatWeights (weightsOf h W b))
/-- The weights of all tokens at all experts, of the arguments. -/
def probsOf : FVec Ideal S16384x64 .f32 := probs (sumsOf h W b)
end Composed

variable (m : (ℓ : Loc nD τ sig) → Buf (Elt Ideal) ℓ) (c : Dev nD)

/-- The reference's entries: the eight greatest of each token's weights. -/
theorem values_eq : res_out1 m c = (Host.topK S16384x8 1 (FloatOps.cmpfTotal .gt)
    (probsOf (m ((c.tc : Thread nD τ).loc main_arg0)) (m ((c.tc : Thread nD τ).loc main_arg1)) (m ((c.tc : Thread nD τ).loc main_arg2)))
    sliceFits_S16384x64_S16384x8).1 := by
  show res_main_values m c = _
  unfold res_main_values
  rfl

/-- The reference's positions: those of the eight greatest of each token's weights. -/
theorem indices_eq : res_out0 m c = (Host.topK S16384x8 1 (FloatOps.cmpfTotal .gt)
    (probsOf (m ((c.tc : Thread nD τ).loc main_arg0)) (m ((c.tc : Thread nD τ).loc main_arg1)) (m ((c.tc : Thread nD τ).loc main_arg2)))
    sliceFits_S16384x64_S16384x8).2 := by
  show res_main_indices m c = _
  unfold res_main_indices
  rfl

end Cert.Router.Ref

end
-- ==== Proof.Token.lean ====
/- Facts of one token's weights: a coordinate's place is a real strictly between 0 and 7, its cell a number of 0 … 6, the
   corners' experts numbers of 0 … 63, the weights at least zero. -/
module

public import proofs.«01_k».proof.Proof.Column

@[expose] public section

noncomputable section

namespace Cert.Router

open Idealize.ShloMosaic

/-- The value of the lower clip. -/
theorem low_eq : low = ((8796093 / 2 ^ 43 : ℝ) : EReal) := by
  unfold low
  simp [Ideal.ofBits, Ideal.ieee, -EReal.coe_mul, -EReal.coe_neg]; norm_num
/-- The value of the upper clip. -/
theorem high_eq : high = ((16777199 / 2 ^ 24 : ℝ) : EReal) := by
  unfold high
  simp [Ideal.ofBits, Ideal.ieee, -EReal.coe_mul, -EReal.coe_neg]; norm_num
/-- The value of the small number added to a divisor. -/
theorem tiny_eq : tiny = ((9007199 / 2 ^ 53 : ℝ) : EReal) := by
  unfold tiny
  simp [Ideal.ofBits, Ideal.ieee, -EReal.coe_mul, -EReal.coe_neg]; norm_num
/-- Seven. -/
theorem seven_eq : Ideal.ofBits .f32 0x40E00000#32 = ((7 : ℝ) : EReal) := by
  simp [Ideal.ofBits, Ideal.ieee, -EReal.coe_mul, -EReal.coe_neg]; norm_num
/-- Six. -/
theorem six_eq : Ideal.ofBits .f32 0x40C00000#32 = ((6 : ℝ) : EReal) := by
  simp [Ideal.ofBits, Ideal.ieee, -EReal.coe_mul, -EReal.coe_neg]; norm_num
/-- The greatest place, just below seven. -/
theorem cap_eq : Ideal.ofBits .f32 0x40DFFFFE#32 = ((14680062 / 2 ^ 21 : ℝ) : EReal) := by
  simp [Ideal.ofBits, Ideal.ieee, -EReal.coe_mul, -EReal.coe_neg]; norm_num

/-- A value clipped to the two bounds is a real between them. -/
theorem clip_real (y : EReal) : ∃ r : ℝ, min high (max low y) = (r : EReal) ∧ 8796093 / 2 ^ 43 ≤ r ∧ r ≤ 16777199 / 2 ^ 24 := by
  have h1 : low ≤ min high (max low y) := le_min (by rw [low_eq, high_eq, EReal.coe_le_coe_iff]; norm_num) (le_max_left _ _)
  have h2 : min high (max low y) ≤ high := min_le_left _ _
  generalize min high (max low y) = z at h1 h2 ⊢
  rw [low_eq] at h1
  rw [high_eq] at h2
  induction z using EReal.rec with
  | bot => simp at h1
  | top => simp at h2
  | coe r => exact ⟨r, rfl, EReal.coe_le_coe_iff.mp h1, EReal.coe_le_coe_iff.mp h2⟩

/-- A coordinate's place before the caps is a real strictly between 0 and 7, by more than either cap's slack. -/
theorem scaled_real (x : EReal) : ∃ p : ℝ, scaled x = (p : EReal) ∧ 0 < p ∧ p ≤ 7 - 119 / 2 ^ 24 := by
  obtain ⟨r, hr, h1, h2⟩ := clip_real (Ideal.logistic x)
  refine ⟨r * 7, ?_, ?_, ?_⟩
  · unfold scaled
    rw [hr, seven_eq, EReal.coe_mul]
  · have : (0 : ℝ) < 8796093 / 2 ^ 43 := by norm_num
    linarith
  · linarith

/-- The caps change nothing. -/
theorem place_eq (x : EReal) : place x = scaled x := by
  obtain ⟨p, hp, h1, h2⟩ := scaled_real x
  unfold place
  rw [hp, cap_eq, min_eq_left, max_eq_left]
  · exact_mod_cast h1.le
  · rw [EReal.coe_le_coe_iff]; norm_num at h2 ⊢; linarith

/-- Nor do the reference's. -/
theorem place_ref (x : EReal) :
    max (min (scaled x) (max 0 (((7 : ℝ) : EReal) - low))) 0 = place x := by
  obtain ⟨p, hp, h1, h2⟩ := scaled_real x
  have h3 : max 0 (((7 : ℝ) : EReal) - low) = ((7 - 8796093 / 2 ^ 43 : ℝ) : EReal) := by
    rw [low_eq, ← EReal.coe_sub, max_eq_right]
    exact_mod_cast (by norm_num : (0 : ℝ) ≤ 7 - 8796093 / 2 ^ 43)
  rw [place_eq, hp, h3, min_eq_left, max_eq_left]
  · exact_mod_cast h1.le
  · rw [EReal.coe_le_coe_iff]; norm_num at h2 ⊢; linarith

/-- A coordinate's place, with the number of its cell. -/
theorem place_cell (x : EReal) : ∃ (p : ℝ) (k : Fin 7), place x = (p : EReal) ∧ 0 < p ∧ ⌊p⌋ = (k.val : ℤ) := by
  obtain ⟨p, hp, h1, h2⟩ := scaled_real x
  have hf0 : 0 ≤ ⌊p⌋ := Int.floor_nonneg.mpr h1.le
  have hf7 : ⌊p⌋ < 7 := Int.floor_lt.mpr (by push_cast; norm_num at h2; linarith)
  refine ⟨p, ⟨⌊p⌋.toNat, by omega⟩, by rw [place_eq, hp], h1, ?_⟩
  show ⌊p⌋ = ((⌊p⌋.toNat : ℕ) : ℤ)
  omega

/-- The number of the cell a coordinate falls in. -/
def cellNo (x : EReal) : Fin 7 := (place_cell x).choose_spec.choose

/-- The floor of a place. -/
theorem floor_place (x : EReal) : Ideal.liftRound Int.floor (place x) = (((cellNo x).val : ℝ) : EReal) := by
  obtain ⟨hp, -, hk⟩ := (place_cell x).choose_spec.choose_spec
  rw [hp, Ideal.liftRound_coe]
  change ((⌊(place_cell x).choose⌋ : ℝ) : EReal) = _
  rw [hk]
  simp [cellNo]

/-- The lower corner of a place is a whole number from 0 to 6. -/
theorem cell_place (x : EReal) : cell (place x) = (((cellNo x).val : ℝ) : EReal) := by
  unfold cell
  have h : ((cellNo x).val : ℝ) ≤ 6 := by exact_mod_cast Nat.le_of_lt_succ (cellNo x).isLt
  rw [floor_place, six_eq, max_eq_right, min_eq_right]
  · exact_mod_cast h
  · exact_mod_cast Nat.zero_le _

/-- A number of 0 … 6, converted to a word. -/
theorem fptosi_small (k : Fin 7) : Ideal.fptosi 32 (((k.val : ℝ)) : EReal) = BitVec.ofNat 32 k.val := by
  unfold Ideal.fptosi
  rw [Ideal.toIntClamped_coe, if_pos (Nat.cast_nonneg _), Int.floor_natCast]
  have hk := k.isLt
  have : max (-((2 ^ (32 - 1) : Nat) : Int)) (min (((2 ^ (32 - 1) : Nat) : Int) - 1) (k.val : Int)) = (k.val : Int) := by
    norm_num; omega
  rw [this]
  simp

/-- The word of a coordinate's cell. -/
theorem cell_word (x : EReal) : Ideal.fptosi 32 (cell (place x)) = BitVec.ofNat 32 (cellNo x).val := by
  rw [cell_place, fptosi_small]

/-- The word of a coordinate's cell as the reference clips it. -/
theorem cell_word_ref (x : EReal) :
    IntOp.minsi (IntOp.subi 8#32 2#32) (IntOp.maxsi 0#32 (Ideal.fptosi 32 (Ideal.liftRound Int.floor (place x))))
      = BitVec.ofNat 32 (cellNo x).val := by
  rw [floor_place, fptosi_small]
  generalize cellNo x = k
  revert k
  decide

/-- The word of a cell, as a number again. -/
theorem sitofp_small (k : Fin 7) : ((((BitVec.ofNat 32 k.val).toInt : ℝ)) : EReal) = ((k.val : ℝ) : EReal) := by
  have h : (BitVec.ofNat 32 k.val).toInt = (k.val : Int) := by revert k; decide
  rw [h]
  norm_cast

/-- The expert at a corner, as the reference composes it, is the kernel's: no clip acts. -/
theorem corner_ref (x y : EReal) (b c : Fin 2) :
    IntOp.minsi 63#32 (IntOp.maxsi 0#32 (IntOp.addi
        (IntOp.muli (IntOp.minsi (IntOp.subi 8#32 1#32) (IntOp.maxsi 0#32 (IntOp.addi (BitVec.ofNat 32 (cellNo x).val) (BitVec.ofNat 32 b.val)))) 1#32)
        (IntOp.muli (IntOp.minsi (IntOp.subi 8#32 1#32) (IntOp.maxsi 0#32 (IntOp.addi (BitVec.ofNat 32 (cellNo y).val) (BitVec.ofNat 32 c.val)))) 8#32)))
      = corner (place x) (place y) (BitVec.ofNat 32 b.val) (BitVec.ofNat 32 c.val) := by
  unfold corner
  rw [cell_word, cell_word]
  generalize cellNo x = k
  generalize cellNo y = k'
  revert b c k k'
  decide

/-- A corner's expert is a number below 64. -/
theorem corner_lt (x y : EReal) (b c : Fin 2) :
    (corner (place x) (place y) (BitVec.ofNat 32 b.val) (BitVec.ofNat 32 c.val)).toNat < 64 := by
  unfold corner
  rw [cell_word, cell_word]
  generalize cellNo x = k
  generalize cellNo y = k'
  revert b c k k'
  decide

/-- How far into its cell a coordinate lies, a real strictly between 0 and 1. -/
theorem part_real (p : EReal) : ∃ r : ℝ, part p = (r : EReal) ∧ 0 < r ∧ r < 1 := by
  obtain ⟨r, hr, h1, h2⟩ := clip_real (p - cell p)
  refine ⟨r, hr, ?_, ?_⟩
  · have : (0 : ℝ) < 8796093 / 2 ^ 43 := by norm_num
    linarith
  · have : (16777199 / 2 ^ 24 : ℝ) < 1 := by norm_num
    linarith

/-- The raised sum of a cell's corner weights is a positive real. -/
theorem mass_real (p q : EReal) : ∃ r : ℝ, mass p q = (r : EReal) ∧ 0 < r := by
  obtain ⟨a, ha, a0, a1⟩ := part_real p
  obtain ⟨b, hb, b0, b1⟩ := part_real q
  refine ⟨(1 - a) * (1 - b) + a * (1 - b) + (1 - a) * b + a * b + 9007199 / 2 ^ 53, ?_, ?_⟩
  · unfold mass w00 w10 w01 w11
    rw [ha, hb, tiny_eq]
    norm_cast
  · have : (0 : ℝ) < 9007199 / 2 ^ 53 := by norm_num
    nlinarith

/-- A weight over the raised sum times a share is the weight times the share over the sum. -/
theorem weight_ref (w s p q : EReal) : Ideal.div w (mass p q) * s = w * Ideal.div s (mass p q) := by
  obtain ⟨r, hr, h0⟩ := mass_real p q
  rw [hr, Ideal.div_coe h0.ne', Ideal.div_coe h0.ne', mul_assoc, mul_comm ((((1 / r : ℝ)) : EReal)) s]

/-- A summed weight is not negative. -/
theorem raw_nonneg (x : Fin 6 → EReal) (k : Fin 64) : 0 ≤ raw x k := le_max_right _ _

/-- A token's weight at an expert is at least zero. -/
theorem prob_nonneg (x : Fin 6 → EReal) (k : Fin 64) : 0 ≤ prob x k := by
  unfold prob
  have hs : 0 < ∑ k, raw x k + tiny := by
    have h1 : 0 ≤ ∑ k, raw x k := Finset.sum_nonneg fun k _ => raw_nonneg x k
    have h2 : 0 < tiny := by rw [tiny_eq]; exact_mod_cast (by norm_num : (0 : ℝ) < 9007199 / 2 ^ 53)
    exact lt_of_lt_of_le h2 (le_add_of_nonneg_left h1)
  unfold Ideal.div
  rw [if_neg hs.ne']
  exact mul_nonneg (raw_nonneg x k) (EReal.inv_nonneg_of_nonneg hs.le)

end Cert.Router

end
-- ==== Proof.RefValue.lean ====
/- The reference's stages read at an index: each token's weights at the experts are the token's column of weights. -/
module

public import proofs.«01_k».proof.Proof.RefStages
public import proofs.«01_k».proof.Proof.Token

@[expose] public section

noncomputable section

namespace Cert.Router.Ref

open Idealize.ShloMosaic Idealize.ShloMosaic.TcCoe Idealize.SL.Sem Cert.ReferenceIdeal Cert.ReferenceIdeal.Gen Cert.ReferenceIdeal.Value

set_option maxRecDepth 16384

/-- A sum of two words as a fold. -/
theorem fold_addi_two (f : Fin 2 → BitVec 32) : Finset.univ.fold IntOp.addi 0#32 f = IntOp.addi (f 0) (f 1) := by
  have h : (Finset.univ : Finset (Fin 2)) = insert 0 {1} := by decide
  rw [h, Finset.fold_insert (by decide), Finset.fold_singleton]
  simp [IntOp.addi]

/-- The greatest of two values as a fold. -/
theorem fold_max_two (f : Fin 2 → EReal) : Finset.univ.fold max (⊥ : EReal) f = max (f 0) (f 1) := by
  have h : (Finset.univ : Finset (Fin 2)) = insert 0 {1} := by decide
  rw [h, Finset.fold_insert (by decide), Finset.fold_singleton]
  simp

/-- The pattern a greatest value is sought from is −∞. -/
theorem bits_bot : Ideal.ofBits .f32 0xFF800000#32 = ⊥ := by
  simp [Ideal.ofBits, Ideal.ieee]

/-- A selection on the equality of two words is a choice on it. -/
theorem select_ne {α : Type} (a b : BitVec 32) (x y : α) :
    Scalar.select (IntOp.cmpi .ne a b) x y = if a = b then y else x := by
  unfold Scalar.select IntOp.cmpi
  by_cases h : a = b
  · simp [h]
  · have h' : (a != b) = true := by simpa using h
    simp [h, h']

/-- The first coordinate of a cell's corner. -/
def side0 : Fin 4 → Fin 2 := ![0, 1, 0, 1]
/-- The second coordinate of a cell's corner. -/
def side1 : Fin 4 → Fin 2 := ![0, 0, 1, 1]

/-- Corner `t`'s first bit. -/
theorem bits0 (t : Fin 4) : bits (ix4 0 0 t 0) = BitVec.ofNat 32 (side0 t).val := by
  pointwise [bits]
  fin_cases t <;> rfl
/-- Corner `t`'s second bit. -/
theorem bits1 (t : Fin 4) : bits (ix4 0 0 t 1) = BitVec.ofNat 32 (side1 t).val := by
  pointwise [bits]
  fin_cases t <;> rfl

/-- Each axis of the grid has seven steps. -/
theorem span_apply (d : Fin 2) : spans (ix3 0 0 d) = ((7 : ℝ) : EReal) := by
  pointwise [spans]
  show (((IntOp.subi 8#32 1#32).toInt : ℝ) : EReal) = _
  have h : (IntOp.subi 8#32 1#32).toInt = 7 := by decide
  rw [h]
  norm_cast

section Composed
variable (h : FVec Ideal S16384x2048 .f32) (W : FVec Ideal S6x2048 .f32) (b : FVec Ideal S6 .f32) (n : Fin 16384) (o d : Fin 2) (t : Fin 4)

/-- A token's logits. -/
def column (i : Fin 6) : EReal := ∑ x : Fin 2048, h (ix2 n x) * W (ix2 i x) + b (ix1 i)

/-- An anchor's coordinate, among the logits. -/
def axis (o d : Fin 2) : Fin 6 := ⟨o.val * 3 + d.val, by have := o.isLt; have := d.isLt; omega⟩
/-- An anchor's own logit, among the logits. -/
def own (o : Fin 2) : Fin 6 := ⟨o.val * 3 + 2, by have := o.isLt; omega⟩

/-- Logit `i` of token `n`: its product with row `i` of the weights, plus bias `i`. -/
theorem logits_apply (i : Fin 6) : logits h W b (ix2 n i) = column h W b n i := by
  pointwise [logits]
  rfl

/-- Anchor `o`'s own logit. -/
theorem anchors_apply : anchors (logits h W b) (ix2 n o) = column h W b n (own o) := by
  pointwise [anchors]
  exact logits_apply h W b n (own o)

/-- Anchor `o`'s exponential, less the greater of the two logits. -/
theorem lifts_apply : lifts (anchors (logits h W b)) (ix2 n o)
    = lift (column h W b n 2) (column h W b n 5) (column h W b n (own o)) := by
  have hx := fun o => anchors_apply h W b n o
  pointwise [lifts]
  simp only [hx, bits_bot, fold_max_two]
  rw [max_eq_right bot_le]
  rfl

/-- Anchor `o`'s share of the softmax. -/
theorem shares_apply : shares (lifts (anchors (logits h W b))) (ix2 n o)
    = share (column h W b n 2) (column h W b n 5) (column h W b n (own o)) := by
  have hx := fun o => lifts_apply h W b n o
  pointwise [shares]
  simp only [hx, Fin.sum_univ_two]
  rfl

/-- The place of anchor `o` on axis `d`. -/
theorem places_apply : placesOf h W b (ix3 n o d) = place (column h W b n (axis o d)) := by
  have hx := logits_apply h W b n (axis o d)
  have hs := span_apply d
  rw [← place_ref]
  unfold placesOf
  pointwise [places, sigmoids]
  rw [hs]
  simp only [scaled, seven_eq]
  rw [← hx]
  rfl

/-- The lower corner of that place. -/
theorem cells_apply : cellsOf h W b (ix3 n o d) = BitVec.ofNat 32 (cellNo (column h W b n (axis o d))).val := by
  have hx := places_apply h W b n o d
  rw [← cell_word_ref, ← hx]
  unfold cellsOf
  pointwise [cells]
  rfl

/-- The fraction of that place. -/
theorem parts_apply : parts (placesOf h W b) (cellsOf h W b) (ix3 n o d) = part (place (column h W b n (axis o d))) := by
  have hx := places_apply h W b n o d
  have hc := cells_apply h W b n o d
  pointwise [parts]
  rw [hx, hc]
  unfold part
  rw [cell_place, ← sitofp_small]
  rfl

/-- The expert at corner `t` of anchor `o`. -/
theorem experts_apply : expertsOf h W b (ix3 n o t)
    = corner (place (column h W b n (axis o 0))) (place (column h W b n (axis o 1)))
        (BitVec.ofNat 32 (side0 t).val) (BitVec.ofNat 32 (side1 t).val) := by
  have h0 := cells_apply h W b n o 0
  have h1 := cells_apply h W b n o 1
  have e0 := bits0 t
  have e1 := bits1 t
  rw [← corner_ref]
  unfold expertsOf
  pointwise [experts, nodes]
  rw [fold_addi_two, h0, h1, e0, e1]
  rfl

/-- A corner's weight. -/
def weigh (p q : EReal) : Fin 4 → EReal := ![w00 p q, w10 p q, w01 p q, w11 p q]

/-- The weight of corner `t` of anchor `o`, before it is normalised. -/
theorem corners_apply : cornersOf h W b (ix3 n o t)
    = weigh (place (column h W b n (axis o 0))) (place (column h W b n (axis o 1))) t := by
  have h0 := parts_apply h W b n o 0
  have h1 := parts_apply h W b n o 1
  have e0 := bits0 t
  have e1 := bits1 t
  unfold cornersOf
  pointwise [corners, sides]
  rw [h0, h1, e0, e1, select_ne, select_ne]
  fin_cases t <;> rfl

/-- The weight of corner `t` of anchor `o`, normalised, times the anchor's share. -/
theorem weights_apply : weightsOf h W b (ix3 n o t)
    = weigh (place (column h W b n (axis o 0))) (place (column h W b n (axis o 1))) t
      * Ideal.div (share (column h W b n 2) (column h W b n 5) (column h W b n (own o)))
          (mass (place (column h W b n (axis o 0))) (place (column h W b n (axis o 1)))) := by
  have hc := fun t => corners_apply h W b n o t
  have hs := shares_apply h W b n o
  rw [← weight_ref]
  unfold weightsOf
  pointwise [weights]
  simp only [hc, hs, Fin.sum_univ_four]
  rfl

end Composed

end Cert.Router.Ref

end
-- ==== Proof.KernelValue.lean ====
/- What the kernel's run leaves in its two results. -/
module

public import proofs.«01_k».proof.Proof.KernelArrays
public import proofs.«01_k».proof.Proof.RefValue
public import Idealize.ShloMosaic.Lib.Claim

@[expose] public section

noncomputable section

namespace Cert.Router

open Idealize.ShloMosaic Idealize.ShloMosaic.TcCoe Idealize.SL.Sem Idealize.ShloMosaic.StableHlo Cert.KernelIdeal Cert.KernelIdeal.Gen

set_option maxRecDepth 16384

/-- A lane over blocks that hold the weights, the biases and token `n` is the token's logits. -/
theorem lane_column (x0 : Vec Ideal S8x2048 .f32) (x1 : Vec Ideal S8x128 .f32) (x2 : Vec Ideal S2048x2048 .f32)
    (h : FVec Ideal S16384x2048 .f32) (W : FVec Ideal S6x2048 .f32) (b : FVec Ideal S6 .f32) (n : Fin 16384) (l : Fin 2048)
    (h0 : ∀ (i : Fin 6) x, x0 (ix2 (i.castLE (by decide)) x) = W (ix2 i x)) (h1 : ∀ i : Fin 6, x1 (ix2 (i.castLE (by decide)) 0) = b (ix1 i))
    (h2 : ∀ x, x2 (ix2 l x) = h (ix2 n x)) : lane x0 x2 x1 l = Ref.column h W b n := by
  funext i
  have hs : ∀ x : Fin 2048, x0 (ix2 (i.castLE (by decide)) x) * x2 (ix2 l x) = h (ix2 n x) * W (ix2 i x) := fun x => by
    rw [h0, h2]
    exact mul_comm (W (ix2 i x)) (h (ix2 n x))
  unfold lane Ref.column
  rw [h1, Finset.sum_congr rfl fun x _ => hs x]

section Run
variable (m : (ℓ : Loc nD τ sig) → Buf (Elt Ideal) ℓ) (c : Dev nD)

/-- The logits of token `n`, of the kernel's arguments in memory. -/
def logit (n : Fin 16384) : Fin 6 → EReal :=
  Ref.column (m ((c.tc : Thread nD τ).loc main_arg0)) (m ((c.tc : Thread nD τ).loc main_arg1)) (m ((c.tc : Thread nD τ).loc main_arg2)) n

/-- Lane `l` of block `t` holds the logits of token `2048 * t + l`. -/
theorem lane_eq (t : Fin cfg0.N) (l : Fin 2048) : lane (iblk m c 0 t) (iblk m c 2 t) (iblk m c 1 t) l = logit m c (token t l) :=
  lane_column _ _ _ _ _ _ _ l
    (fun i x => (congrFun (blk0 m c t) _).trans (rows8_apply _ i x)) (fun i => (congrFun (blk1 m c t) _).trans (bias8_apply _ i)) (fun x => blk2 m c t l x)

/-- The expert numbers as the pipeline leaves them: one row per round, one column per token. -/
def numbers : IVec S8x16384 32 := fun i => topAt (after (prob (logit m c (i 1))) (i 0).val)

/-- The weights as the pipeline leaves them. -/
def heights : FVec Ideal S8x16384 .f32 := fun i => top (after (prob (logit m c (i 1))) (i 0).val)

/-- After the run the first output array holds the expert numbers. -/
theorem array3 : (dats m 0 c).arrAt 3 cfg0.N = numbers m c := by
  refine (dats m 0 c).arrAt_eq_of_covers 3 _ (by decide +kernel) fun t hf y => ?_
  blk_simp
  obtain ⟨r, l, rfl⟩ : ∃ r l, y = ix2 (n0 := 8) (n1 := 2048) r l := ⟨y 0, y 1, eq_ix2 y⟩
  rw [after0_3]
  have he : ((win0_3.blk t).view.emb (ix2 r l) : S8x16384.Idx) = ix2 r (token t l) := by
    unfold token
    blk_ext [index3 t]
  refine (out3_apply _ _ _ r l).trans ?_
  rw [lane_eq, he]
  rfl

/-- After the run the second output array holds the weights. -/
theorem array4 : (dats m 0 c).arrAt 4 cfg0.N = heights m c := by
  refine (dats m 0 c).arrAt_eq_of_covers 4 _ (by decide +kernel) fun t hf y => ?_
  blk_simp
  obtain ⟨r, l, rfl⟩ : ∃ r l, y = ix2 (n0 := 8) (n1 := 2048) r l := ⟨y 0, y 1, eq_ix2 y⟩
  rw [after0_4]
  have he : ((win0_4.blk t).view.emb (ix2 r l) : S8x16384.Idx) = ix2 r (token t l) := by
    unfold token
    blk_ext [index4 t]
  refine (out4_apply _ _ _ r l).trans ?_
  rw [lane_eq, he]
  rfl

/-- After the region, the expert numbers are transposed into the first result. -/
theorem tail0 : Pipeline.afterTail₀ cfgs (dats m) 0 (V0 m) [hostOps1] c main_v0_0
    = transpose S16384x8 [1, 0] (numbers m c) transposes_S8x16384_S16384x8_1_0 := by
  have hw := Pipeline.withArrays_arr spec0 winFacts0.arr_inj c (V0 m c) (fun w => (dats m 0 c).arrAt w cfg0.N) 3
  rw [← array3 m c, ← hw]
  unfold Pipeline.afterTail₀
  simp only [hostOps1, List.flatten_cons, List.flatten_nil, List.append_nil, TRef.unary, TRef.toBuf, TRef.ofBuf, cast_eq]
  after_results_simp

/-- After the region, the weights are transposed into the second result. -/
theorem tail1 : Pipeline.afterTail₀ cfgs (dats m) 0 (V0 m) [hostOps1] c main_v0_1
    = transpose S16384x8 [1, 0] (heights m c) transposes_S8x16384_S16384x8_1_0 := by
  have hw := Pipeline.withArrays_arr spec0 winFacts0.arr_inj c (V0 m c) (fun w => (dats m 0 c).arrAt w cfg0.N) 4
  rw [← array4 m c, ← hw]
  unfold Pipeline.afterTail₀
  simp only [hostOps1, List.flatten_cons, List.flatten_nil, List.append_nil, TRef.unary, TRef.toBuf, TRef.ofBuf, cast_eq]
  after_results_simp

/-- The kernel's expert `r` of token `n`: the position taken in round `r`. -/
theorem index_out (n : Fin 16384) (r : Fin 8) :
    Pipeline.afterTail₀ cfgs (dats m) 0 (V0 m) [hostOps1] c main_v0_0 (ix2 n r) = topAt (after (prob (logit m c n)) r.val) := by
  rw [tail0]
  pointwise
  rfl

/-- The kernel's weight `r` of token `n`: round `r` of eight. -/
theorem value_out (n : Fin 16384) (r : Fin 8) :
    Pipeline.afterTail₀ cfgs (dats m) 0 (V0 m) [hostOps1] c main_v0_1 (ix2 n r) = top (after (prob (logit m c n)) r.val) := by
  rw [tail1]
  pointwise
  rfl

/-- The kernel's run: the two results as the lines after the region leave them, the arguments unchanged. -/
theorem run_kernel (ρ : Dev nD → PrngReg) : θ_run defs (onTc (τ := τ) (main (F := Ideal))) ⟨m, fun _ => 0, ρ⟩ (fun r => ∀ c : Dev nD,
      r.2.mem ((c.tc : Thread nD τ).loc main_v0_0) = Pipeline.afterTail₀ cfgs (dats m) 0 (V0 m) [hostOps1] c main_v0_0
      ∧ r.2.mem ((c.tc : Thread nD τ).loc main_v0_1) = Pipeline.afterTail₀ cfgs (dats m) 0 (V0 m) [hostOps1] c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v0_0 (Pipeline.mem_restRefs_of main_v0_0 (by decide) (by decide)),
      (h.1 c).2 main_v0_1 (Pipeline.mem_restRefs_of main_v0_1 (by decide) (by decide)), h.2 c⟩)
    (θ_run_and (run_main m ρ) (unchanged m ρ))
end Run

end Cert.Router

end
-- ==== Proof.RefSums.lean ====
/- The reference's weights added up at the experts, normalised, and the eight greatest taken. -/
module

public import proofs.«01_k».proof.Proof.RefValue
public import proofs.«01_k».proof.Proof.TopK
public import Idealize.ShloMosaic.Lib.Routing.OpsPair
public import Idealize.ShloMosaic.Lib.Pointwise.IndexBridge

@[expose] public section

noncomputable section

namespace Cert.Router.Ref

open Idealize.ShloMosaic Idealize.ShloMosaic.TcCoe Idealize.SL.Sem Cert.ReferenceIdeal Cert.ReferenceIdeal.Gen Cert.ReferenceIdeal.Value

set_option maxRecDepth 16384

/-- A word of a small number is not negative. -/
theorem not_slt_zero (w : BitVec 32) (hw : w.toNat < 2 ^ 31) : w.slt 0#32 = false := by
  have h : 0 ≤ w.toInt := by rw [BitVec.toInt_eq_toNat_cond]; split <;> omega
  have h0 : (0#32 : BitVec 32).toInt = 0 := rfl
  rw [Bool.eq_false_iff]
  intro hs
  rw [BitVec.slt_iff_toInt_lt, h0] at hs
  omega

/-- Counting a negative index from the end changes nothing at a small number. -/
theorem wrap_small (w c : BitVec 32) (hw : w.toNat < 2 ^ 31) :
    Scalar.select (IntOp.cmpi .slt w 0#32) (IntOp.addi w c) w = w := by
  unfold Scalar.select IntOp.cmpi
  simp [not_slt_zero w hw]

/-- A word of a small number, read signed, is the number. -/
theorem toInt_small (w : BitVec 32) (hw : w.toNat < 2 ^ 31) : w.toInt = w.toNat := by
  rw [BitVec.toInt_eq_toNat_cond]; split <;> omega

/-- Where the weights go: weight `e` of token `n` to the token and the expert. -/
theorem spots0 (j : IVec S16384x8 32) (n : Fin 16384) (e : Fin 8) : spots j (ix3 n e 0) = BitVec.ofNat 32 n.val := by
  have hn := n.isLt
  pointwise [spots]
  refine wrap_small _ _ ?_
  rw [BitVec.toNat_ofNat]
  omega
/-- Its expert is the word itself, where that is below 64. -/
theorem spots1 (j : IVec S16384x8 32) (n : Fin 16384) (e : Fin 8) (hj : (j (ix2 n e)).toNat < 64) :
    spots j (ix3 n e 1) = j (ix2 n e) := by
  pointwise [spots]
  exact wrap_small _ _ (by omega)

/-- A float scatter that adds, read at one place. -/
theorem added {s si su : Shape} {w : Nat} (d : ScatterDims s si su) (x : FVec Ideal s .f32) (i : IVec si w) (u : FVec Ideal su .f32) (a : s.Idx) :
    Host.scatterAdd d x i u a = x a + ∑ j ∈ Finset.univ.filter (fun j => d.resultIdx? j i = some a), u j := rfl

/-- The sum at token `n`, expert `k`: the token's weights whose expert is `k`. -/
theorem scatter_apply (x : FVec Ideal S16384x64 .f32) (j : IVec S16384x8 32) (v : FVec Ideal S16384x8 .f32)
    (hj : ∀ n e, (j (ix2 n e)).toNat < 64) (n : Fin 16384) (k : Fin 64) :
    Host.scatterAdd scatter_S16384x64_S16384x8x2_S16384x8_n_01_01_2 x (spots j) v (ix2 n k)
      = x (ix2 n k) + ∑ e : Fin 8, only k (j (ix2 n e)) (v (ix2 n e)) := by
  have hl : ∀ (a : Fin 16384) (e : Fin 8),
      scatter_S16384x64_S16384x8x2_S16384x8_n_01_01_2.resultIdx? (ix2 a e) (spots j) = some (ix2 n k)
        ↔ a = n ∧ j (ix2 a e) = BitVec.ofNat 32 k.val := fun a e => by
    have h0 := spots0 j a e
    have h1 := spots1 j a e (hj a e)
    have ha := a.isLt
    have hk := k.isLt
    have hje := hj a e
    rw [ix2_eq_valueIdx, ix2_eq_valueIdx]
    refine (Routing.scatter_lands2 _ rfl rfl rfl (spots j) a e n k).trans ?_
    rw [← ix3_eq_valueIdx, ← ix3_eq_valueIdx, h0, h1, toInt_small _ (by rw [BitVec.toNat_ofNat]; omega), toInt_small _ (by omega),
      BitVec.toNat_ofNat, ← ix2_eq_valueIdx]
    constructor
    · rintro ⟨e1, e2⟩
      refine ⟨Fin.ext (by omega), BitVec.eq_of_toNat_eq ?_⟩
      rw [BitVec.toNat_ofNat]
      omega
    · rintro ⟨e1, e2⟩
      rw [e2, BitVec.toNat_ofNat, e1]
      exact ⟨by omega, by omega⟩
  rw [added]
  refine congrArg (x (ix2 n k) + ·) ?_
  have ho : ∀ e : Fin 8, only k (j (ix2 n e)) (v (ix2 n e)) = if j (ix2 n e) = BitVec.ofNat 32 k.val then v (ix2 n e) else 0 := fun e => by
    unfold only Scalar.select IntOp.cmpi
    by_cases hh : j (ix2 n e) = BitVec.ofNat 32 k.val
    · simp [hh]
    · have h' : (BitVec.ofNat 32 k.val == j (ix2 n e)) = false := by simpa using fun h => hh h.symm
      simp [hh, h']
  simp only [ho]
  rw [← Finset.sum_filter]
  have heta : ∀ i : S16384x8.Idx, ix2 (n0 := 16384) (n1 := 8) (i 0) (i 1) = i := fun i => by
    funext a
    fin_cases a <;> rfl
  refine Finset.sum_nbij' (fun i => (i 1 : Fin 8)) (fun e => ix2 n e) ?_ ?_ ?_ ?_ ?_
  · intro i hi
    have h2 := (Finset.mem_filter.mp hi).2
    rw [← heta i] at h2
    obtain ⟨ha, hb⟩ := (hl _ _).mp h2
    rw [ha] at hb
    exact Finset.mem_filter.mpr ⟨Finset.mem_univ _, hb⟩
  · intro e he
    exact Finset.mem_filter.mpr ⟨Finset.mem_univ _, (hl _ _).mpr ⟨rfl, (Finset.mem_filter.mp he).2⟩⟩
  · intro i hi
    have h2 := (Finset.mem_filter.mp hi).2
    rw [← heta i] at h2
    obtain ⟨ha, -⟩ := (hl _ _).mp h2
    rw [← ha]
    exact heta i
  · intro e he
    rfl
  · intro i hi
    have h2 := (Finset.mem_filter.mp hi).2
    rw [← heta i] at h2
    obtain ⟨ha, -⟩ := (hl _ _).mp h2
    rw [← ha]
    exact congrArg v (heta i).symm

section Composed
variable (h : FVec Ideal S16384x2048 .f32) (W : FVec Ideal S6x2048 .f32) (b : FVec Ideal S6 .f32) (n : Fin 16384)

/-- Every corner's expert is below 64. -/
theorem experts_lt (o : Fin 2) (t : Fin 4) : (expertsOf h W b (ix3 n o t)).toNat < 64 := by
  rw [experts_apply]
  exact corner_lt _ _ _ _

/-- Entry `e` of a token's eight experts: corner `e % 4` of anchor `e / 4`. -/
theorem flatExperts_apply (e : Fin 8) : flatExperts (expertsOf h W b) (ix2 n e)
    = expertsOf h W b (ix3 n ⟨e.val / 4, by have := e.isLt; omega⟩ ⟨e.val % 4, by omega⟩) := by
  pointwise [flatExperts]

/-- Entry `e` of a token's eight weights: corner `e % 4` of anchor `e / 4`. -/
theorem flatWeights_apply (e : Fin 8) : flatWeights (weightsOf h W b) (ix2 n e)
    = weightsOf h W b (ix3 n ⟨e.val / 4, by have := e.isLt; omega⟩ ⟨e.val % 4, by omega⟩) := by
  pointwise [flatWeights]

/-- The sum of a token's eight weights at expert `k`, of its logits. -/
theorem raw_eq (x : Fin 6 → EReal) (k : Fin 64) :
    max (∑ e : Fin 8, only k
      (corner (place (x (axis ⟨e.val / 4, by have := e.isLt; omega⟩ 0))) (place (x (axis ⟨e.val / 4, by have := e.isLt; omega⟩ 1)))
        (BitVec.ofNat 32 (side0 ⟨e.val % 4, by omega⟩).val) (BitVec.ofNat 32 (side1 ⟨e.val % 4, by omega⟩).val))
      (weigh (place (x (axis ⟨e.val / 4, by have := e.isLt; omega⟩ 0))) (place (x (axis ⟨e.val / 4, by have := e.isLt; omega⟩ 1))) ⟨e.val % 4, by omega⟩
        * Ideal.div (share (x 2) (x 5) (x (own ⟨e.val / 4, by have := e.isLt; omega⟩)))
          (mass (place (x (axis ⟨e.val / 4, by have := e.isLt; omega⟩ 0))) (place (x (axis ⟨e.val / 4, by have := e.isLt; omega⟩ 1)))))) 0 = raw x k := by
  rw [Fin.sum_univ_eight]
  rfl

/-- The sum at token `n`, expert `k`, of the token's logits. -/
theorem sums_apply (k : Fin 64) : sumsOf h W b (ix2 n k) = raw (column h W b n) k := by
  have hz : broadcastInDim S16384x64 ![] bcast_S_S16384x64 (constant (F := Ideal) S_ .f32 0x00000000#32) (ix2 n k) = 0 := by
    pointwise
  have hs := scatter_apply (broadcastInDim S16384x64 ![] bcast_S_S16384x64 (constant S_ .f32 0x00000000#32))
    (flatExperts (expertsOf h W b)) (flatWeights (weightsOf h W b)) (fun n e => by rw [flatExperts_apply]; exact experts_lt h W b n _ _) n k
  rw [hz, zero_add] at hs
  unfold sumsOf sums
  rw [maximumf_apply, hz, hs, Ideal.maximumf_def, max_comm, ← raw_eq]
  simp only [flatExperts_apply, flatWeights_apply, experts_apply, weights_apply]

/-- The normalised weight at token `n`, expert `k`, of the token's logits. -/
theorem probs_apply (k : Fin 64) : probsOf h W b (ix2 n k) = prob (column h W b n) k := by
  have hs := fun k => sums_apply h W b n k
  unfold probsOf
  pointwise [probs]
  simp only [hs]
  rfl
end Composed

/-- The eight greatest entries of each row, read at an index. -/
theorem topK_value {A B C : Nat} (q : FVec Ideal ⟨2, ![A, B]⟩ .f32) (hs : (⟨2, ![A, B]⟩ : Shape).Slices (fun _ => 0) ⟨2, ![A, C]⟩)
    (hC : C ≤ B) (n : Fin A) (r : Fin C) :
    (Host.topK ⟨2, ![A, C]⟩ 1 (FloatOps.cmpfTotal .gt) q hs).1 (ix2 n r)
      = q (ix2 n (sortedFrom (fun k k' : Fin B => Ideal.cmpTotal .gt (q (ix2 n k)) (q (ix2 n k')) == 1#1) (r.castLE hC))) := by
  have hal : ∀ (a : Fin A) (b k : Fin B), (ix2 a b).along 1 k = ix2 a k := fun a b k => by
    funext i
    match i with
    | ⟨0, _⟩ => rfl
    | ⟨1, _⟩ => rfl
  have hsl : (extractStridedSlice ⟨2, ![A, C]⟩ (fun _ => 0) (fun j : (⟨2, ![A, B]⟩ : Shape).Idx => j) hs) (ix2 n r) = ix2 n (r.castLE hC) := by
    funext i
    match i with
    | ⟨0, _⟩ => exact Fin.ext (Nat.zero_add _)
    | ⟨1, _⟩ => exact Fin.ext (Nat.zero_add _)
  show (fun j : (⟨2, ![A, B]⟩ : Shape).Idx => q (j.along 1 (sortedFrom (fun k k' : Fin B => Ideal.cmpTotal .gt (q (j.along 1 k)) (q (j.along 1 k')) == 1#1) (j 1))))
    (extractStridedSlice ⟨2, ![A, C]⟩ (fun _ => 0) (fun j : (⟨2, ![A, B]⟩ : Shape).Idx => j) hs (ix2 n r)) = _
  rw [hsl]
  simp only [hal]
  exact congrArg q (hal n (r.castLE hC) _)

/-- Their positions. -/
theorem topK_position {A B C : Nat} (q : FVec Ideal ⟨2, ![A, B]⟩ .f32) (hs : (⟨2, ![A, B]⟩ : Shape).Slices (fun _ => 0) ⟨2, ![A, C]⟩)
    (hC : C ≤ B) (n : Fin A) (r : Fin C) :
    (Host.topK ⟨2, ![A, C]⟩ 1 (FloatOps.cmpfTotal .gt) q hs).2 (ix2 n r)
      = BitVec.ofNat 32 (sortedFrom (fun k k' : Fin B => Ideal.cmpTotal .gt (q (ix2 n k)) (q (ix2 n k')) == 1#1) (r.castLE hC)).val := by
  have hal : ∀ (a : Fin A) (b k : Fin B), (ix2 a b).along 1 k = ix2 a k := fun a b k => by
    funext i
    match i with
    | ⟨0, _⟩ => rfl
    | ⟨1, _⟩ => rfl
  have hsl : (extractStridedSlice ⟨2, ![A, C]⟩ (fun _ => 0) (fun j : (⟨2, ![A, B]⟩ : Shape).Idx => j) hs) (ix2 n r) = ix2 n (r.castLE hC) := by
    funext i
    match i with
    | ⟨0, _⟩ => exact Fin.ext (Nat.zero_add _)
    | ⟨1, _⟩ => exact Fin.ext (Nat.zero_add _)
  show (fun j : (⟨2, ![A, B]⟩ : Shape).Idx => BitVec.ofNat 32 ((j.along 1 (sortedFrom (fun k k' : Fin B => Ideal.cmpTotal .gt (q (j.along 1 k)) (q (j.along 1 k')) == 1#1) (j 1))) 1).val)
    (extractStridedSlice ⟨2, ![A, C]⟩ (fun _ => 0) (fun j : (⟨2, ![A, B]⟩ : Shape).Idx => j) hs (ix2 n r)) = _
  rw [hsl]
  simp only [hal]
  rfl

section Results
variable (m : (ℓ : Loc nD τ sig) → Buf (Elt Ideal) ℓ) (c : Dev nD) (n : Fin 16384) (r : Fin 8)

/-- The logits of token `n`, of the reference's arguments in memory. -/
def logit : Fin 6 → EReal :=
  column (m ((c.tc : Thread nD τ).loc main_arg0)) (m ((c.tc : Thread nD τ).loc main_arg1)) (m ((c.tc : Thread nD τ).loc main_arg2)) n

/-- The reference's weight `r` of token `n`: round `r` of eight. -/
theorem value_apply : res_out1 m c (ix2 n r) = top (after (prob (logit m c n)) r.val) := by
  have hr := r.isLt
  rw [values_eq, topK_value _ _ (by decide)]
  simp only [probs_apply]
  rw [sortedFrom_eq_picked _ (prob_nonneg _)]
  exact (top_after _ (prob_nonneg _) r.val (by omega)).symm

/-- The reference's expert `r` of token `n`: the position taken in round `r`. -/
theorem index_apply : res_out0 m c (ix2 n r) = topAt (after (prob (logit m c n)) r.val) := by
  rw [indices_eq, topK_position _ _ (by decide)]
  simp only [probs_apply]
  rw [sortedFrom_eq_picked _ (prob_nonneg _)]
  exact (topAt_after _ r.val).symm
end Results

end Cert.Router.Ref

end
-- ==== Proof.lean ====
/- The five claims: the three frames, that the ideal kernel is the kernel, and that kernel and reference compute the same experts and weights. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefSums
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference: it ends, its arguments are as they were, and it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run m ρ)

section Equal
open Cert.Router
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Arguments alike, tokens' logits alike. -/
theorem logit_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (n : Fin 16384) : Ref.logit m' c n = Router.logit m c n := by
  unfold Ref.logit Router.logit
  rw [h0, h1, h2]

/-- Kernel and reference, run on the same arguments, end with the same experts and the same weights. -/
theorem values : Cert.algebraic_KernelIdeal_ReferenceIdeal (hKernelIdeal := Cert.KernelIdeal.Gen.facts) (hReferenceIdeal := Cert.ReferenceIdeal.Gen.facts) := by
  intro m g m' g' _ hm
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v0_0,
    fun c => Pipeline.afterTail₀ Cert.KernelIdeal.cfgs (Cert.KernelIdeal.Gen.dats m) 0 (Cert.KernelIdeal.Gen.V0 m) [Cert.KernelIdeal.Gen.hostOps1] c Cert.KernelIdeal.main_v0_1,
    run_kernel m g, ?_⟩
  refine (θ_run Cert.ReferenceIdeal.defs _ _).mono (fun r h c => ?_) (Cert.ReferenceIdeal.Value.run m' g')
  obtain ⟨e0, e1, e2⟩ := hm c
  refine ⟨(h c).1.trans ?_, (h c).2.1.trans ?_, (h c).2.2⟩
  · funext i
    obtain ⟨n, q, rfl⟩ : ∃ n q, i = ix2 (n0 := 16384) (n1 := 8) n q := ⟨i 0, i 1, eq_ix2 i⟩
    refine (Ref.index_apply m' c n q).trans ?_
    rw [logit_eq m m' c e0 e1 e2]
    exact (index_out m c n q).symm
  · funext i
    obtain ⟨n, q, rfl⟩ : ∃ n q, i = ix2 (n0 := 16384) (n1 := 8) n q := ⟨i 0, i 1, eq_ix2 i⟩
    refine (Ref.value_apply m' c n q).trans ?_
    rw [logit_eq m m' c e0 e1 e2]
    exact (value_out m c n q).symm
end Equal

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, values⟩

end Cert.Proof

end
